-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9)
      ∧ r.2.mem ((c.tc : Thread Cert.Bwd.nD Cert.Bwd.τ).loc Cert.Bwd.main_arg10) = m ((c.tc : Thread Cert.Bwd.nD Cert.Bwd.τ).loc Cert.Bwd.main_arg10)
      ∧ r.2.mem ((c.tc : Thread Cert.Bwd.nD Cert.Bwd.τ).loc Cert.Bwd.main_arg11) = m ((c.tc : Thread Cert.Bwd.nD Cert.Bwd.τ).loc Cert.Bwd.main_arg11)
      ∧ r.2.mem ((c.tc : Thread Cert.Bwd.nD Cert.Bwd.τ).loc Cert.Bwd.main_arg12) = m ((c.tc : Thread Cert.Bwd.nD Cert.Bwd.τ).loc Cert.Bwd.main_arg12)
      ∧ r.2.mem ((c.tc : Thread Cert.Bwd.nD Cert.Bwd.τ).loc Cert.Bwd.main_arg13) = m ((c.tc : Thread Cert.Bwd.nD Cert.Bwd.τ).loc Cert.Bwd.main_arg13)
      ∧ r.2.mem ((c.tc : Thread Cert.Bwd.nD Cert.Bwd.τ).loc Cert.Bwd.main_arg14) = m ((c.tc : Thread Cert.Bwd.nD Cert.Bwd.τ).loc Cert.Bwd.main_arg14)
      ∧ r.2.mem ((c.tc : Thread Cert.Bwd.nD Cert.Bwd.τ).loc Cert.Bwd.main_arg15) = m ((c.tc : Thread Cert.Bwd.nD Cert.Bwd.τ).loc Cert.Bwd.main_arg15)
      ∧ r.2.mem ((c.tc : Thread Cert.Bwd.nD Cert.Bwd.τ).loc Cert.Bwd.main_arg16) = m ((c.tc : Thread Cert.Bwd.nD Cert.Bwd.τ).loc Cert.Bwd.main_arg16)
      ∧ r.2.mem ((c.tc : Thread Cert.Bwd.nD Cert.Bwd.τ).loc Cert.Bwd.main_arg17) = m ((c.tc : Thread Cert.Bwd.nD Cert.Bwd.τ).loc Cert.Bwd.main_arg17))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
      ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10)
      ∧ r.2.mem ((c.tc : Thread Cert.BwdIdeal.nD Cert.BwdIdeal.τ).loc Cert.BwdIdeal.main_arg11) = m ((c.tc : Thread Cert.BwdIdeal.nD Cert.BwdIdeal.τ).loc Cert.BwdIdeal.main_arg11)
      ∧ r.2.mem ((c.tc : Thread Cert.BwdIdeal.nD Cert.BwdIdeal.τ).loc Cert.BwdIdeal.main_arg12) = m ((c.tc : Thread Cert.BwdIdeal.nD Cert.BwdIdeal.τ).loc Cert.BwdIdeal.main_arg12)
      ∧ r.2.mem ((c.tc : Thread Cert.BwdIdeal.nD Cert.BwdIdeal.τ).loc Cert.BwdIdeal.main_arg13) = m ((c.tc : Thread Cert.BwdIdeal.nD Cert.BwdIdeal.τ).loc Cert.BwdIdeal.main_arg13)
      ∧ r.2.mem ((c.tc : Thread Cert.BwdIdeal.nD Cert.BwdIdeal.τ).loc Cert.BwdIdeal.main_arg14) = m ((c.tc : Thread Cert.BwdIdeal.nD Cert.BwdIdeal.τ).loc Cert.BwdIdeal.main_arg14)
      ∧ r.2.mem ((c.tc : Thread Cert.BwdIdeal.nD Cert.BwdIdeal.τ).loc Cert.BwdIdeal.main_arg15) = m ((c.tc : Thread Cert.BwdIdeal.nD Cert.BwdIdeal.τ).loc Cert.BwdIdeal.main_arg15)
      ∧ r.2.mem ((c.tc : Thread Cert.BwdIdeal.nD Cert.BwdIdeal.τ).loc Cert.BwdIdeal.main_arg16) = m ((c.tc : Thread Cert.BwdIdeal.nD Cert.BwdIdeal.τ).loc Cert.BwdIdeal.main_arg16)
      ∧ r.2.mem ((c.tc : Thread Cert.BwdIdeal.nD Cert.BwdIdeal.τ).loc Cert.BwdIdeal.main_arg17) = m ((c.tc : Thread Cert.BwdIdeal.nD Cert.BwdIdeal.τ).loc Cert.BwdIdeal.main_arg17))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8)
      ∧ r.2.mem ((c.tc : Thread Cert.BwdRefIdeal.nD Cert.BwdRefIdeal.τ).loc Cert.BwdRefIdeal.main_arg9) = m ((c.tc : Thread Cert.BwdRefIdeal.nD Cert.BwdRefIdeal.τ).loc Cert.BwdRefIdeal.main_arg9)
      ∧ r.2.mem ((c.tc : Thread Cert.BwdRefIdeal.nD Cert.BwdRefIdeal.τ).loc Cert.BwdRefIdeal.main_arg10) = m ((c.tc : Thread Cert.BwdRefIdeal.nD Cert.BwdRefIdeal.τ).loc Cert.BwdRefIdeal.main_arg10)
      ∧ r.2.mem ((c.tc : Thread Cert.BwdRefIdeal.nD Cert.BwdRefIdeal.τ).loc Cert.BwdRefIdeal.main_arg11) = m ((c.tc : Thread Cert.BwdRefIdeal.nD Cert.BwdRefIdeal.τ).loc Cert.BwdRefIdeal.main_arg11)
      ∧ r.2.mem ((c.tc : Thread Cert.BwdRefIdeal.nD Cert.BwdRefIdeal.τ).loc Cert.BwdRefIdeal.main_arg12) = m ((c.tc : Thread Cert.BwdRefIdeal.nD Cert.BwdRefIdeal.τ).loc Cert.BwdRefIdeal.main_arg12)
      ∧ r.2.mem ((c.tc : Thread Cert.BwdRefIdeal.nD Cert.BwdRefIdeal.τ).loc Cert.BwdRefIdeal.main_arg13) = m ((c.tc : Thread Cert.BwdRefIdeal.nD Cert.BwdRefIdeal.τ).loc Cert.BwdRefIdeal.main_arg13)
      ∧ r.2.mem ((c.tc : Thread Cert.BwdRefIdeal.nD Cert.BwdRefIdeal.τ).loc Cert.BwdRefIdeal.main_arg14) = m ((c.tc : Thread Cert.BwdRefIdeal.nD Cert.BwdRefIdeal.τ).loc Cert.BwdRefIdeal.main_arg14)
      ∧ r.2.mem ((c.tc : Thread Cert.BwdRefIdeal.nD Cert.BwdRefIdeal.τ).loc Cert.BwdRefIdeal.main_arg15) = m ((c.tc : Thread Cert.BwdRefIdeal.nD Cert.BwdRefIdeal.τ).loc Cert.BwdRefIdeal.main_arg15)
      ∧ r.2.mem ((c.tc : Thread Cert.BwdRefIdeal.nD Cert.BwdRefIdeal.τ).loc Cert.BwdRefIdeal.main_arg16) = m ((c.tc : Thread Cert.BwdRefIdeal.nD Cert.BwdRefIdeal.τ).loc Cert.BwdRefIdeal.main_arg16)
      ∧ r.2.mem ((c.tc : Thread Cert.BwdRefIdeal.nD Cert.BwdRefIdeal.τ).loc Cert.BwdRefIdeal.main_arg17) = m ((c.tc : Thread Cert.BwdRefIdeal.nD Cert.BwdRefIdeal.τ).loc Cert.BwdRefIdeal.main_arg17))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v4_2)) (v3 : (c : Dev Cert.DownIdeal.nD) → Buf (Elt Ideal) ((c.tc : Thread Cert.DownIdeal.nD Cert.DownIdeal.τ).loc Cert.DownIdeal.main_v4_3)) (v4 : (c : Dev Cert.DownIdeal.nD) → Buf (Elt Ideal) ((c.tc : Thread Cert.DownIdeal.nD Cert.DownIdeal.τ).loc Cert.DownIdeal.main_v4_4)) (v5 : (c : Dev Cert.DownIdeal.nD) → Buf (Elt Ideal) ((c.tc : Thread Cert.DownIdeal.nD Cert.DownIdeal.τ).loc Cert.DownIdeal.main_v4_5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_v4_2) = v2 c
          ∧ r.2.mem ((c.tc : Thread Cert.DownIdeal.nD Cert.DownIdeal.τ).loc Cert.DownIdeal.main_v4_3) = v3 c
          ∧ r.2.mem ((c.tc : Thread Cert.DownIdeal.nD Cert.DownIdeal.τ).loc Cert.DownIdeal.main_v4_4) = v4 c
          ∧ r.2.mem ((c.tc : Thread Cert.DownIdeal.nD Cert.DownIdeal.τ).loc Cert.DownIdeal.main_v4_5) = v5 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v44) = v0 c
          ∧ r.2.mem ((c.tc : Thread Cert.DownRefIdeal.nD Cert.DownRefIdeal.τ).loc Cert.DownRefIdeal.main_v55) = v1 c
          ∧ r.2.mem ((c.tc : Thread Cert.DownRefIdeal.nD Cert.DownRefIdeal.τ).loc Cert.DownRefIdeal.main_v63) = v2 c
          ∧ r.2.mem ((c.tc : Thread Cert.DownRefIdeal.nD Cert.DownRefIdeal.τ).loc Cert.DownRefIdeal.main_v64) = v3 c
          ∧ r.2.mem ((c.tc : Thread Cert.DownRefIdeal.nD Cert.DownRefIdeal.τ).loc Cert.DownRefIdeal.main_v58) = v4 c
          ∧ r.2.mem ((c.tc : Thread Cert.DownRefIdeal.nD Cert.DownRefIdeal.τ).loc Cert.DownRefIdeal.main_v62) = v5 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8))

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)
      ∧ m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7)
      ∧ m' ((c.tc : Thread Cert.BwdRefIdeal.nD Cert.BwdRefIdeal.τ).loc Cert.BwdRefIdeal.main_arg8) = m ((c.tc : Thread Cert.BwdIdeal.nD Cert.BwdIdeal.τ).loc Cert.BwdIdeal.main_arg8)
      ∧ m' ((c.tc : Thread Cert.BwdRefIdeal.nD Cert.BwdRefIdeal.τ).loc Cert.BwdRefIdeal.main_arg9) = m ((c.tc : Thread Cert.BwdIdeal.nD Cert.BwdIdeal.τ).loc Cert.BwdIdeal.main_arg9)
      ∧ m' ((c.tc : Thread Cert.BwdRefIdeal.nD Cert.BwdRefIdeal.τ).loc Cert.BwdRefIdeal.main_arg10) = m ((c.tc : Thread Cert.BwdIdeal.nD Cert.BwdIdeal.τ).loc Cert.BwdIdeal.main_arg10)
      ∧ m' ((c.tc : Thread Cert.BwdRefIdeal.nD Cert.BwdRefIdeal.τ).loc Cert.BwdRefIdeal.main_arg11) = m ((c.tc : Thread Cert.BwdIdeal.nD Cert.BwdIdeal.τ).loc Cert.BwdIdeal.main_arg11)
      ∧ m' ((c.tc : Thread Cert.BwdRefIdeal.nD Cert.BwdRefIdeal.τ).loc Cert.BwdRefIdeal.main_arg12) = m ((c.tc : Thread Cert.BwdIdeal.nD Cert.BwdIdeal.τ).loc Cert.BwdIdeal.main_arg12)
      ∧ m' ((c.tc : Thread Cert.BwdRefIdeal.nD Cert.BwdRefIdeal.τ).loc Cert.BwdRefIdeal.main_arg13) = m ((c.tc : Thread Cert.BwdIdeal.nD Cert.BwdIdeal.τ).loc Cert.BwdIdeal.main_arg13)
      ∧ m' ((c.tc : Thread Cert.BwdRefIdeal.nD Cert.BwdRefIdeal.τ).loc Cert.BwdRefIdeal.main_arg14) = m ((c.tc : Thread Cert.BwdIdeal.nD Cert.BwdIdeal.τ).loc Cert.BwdIdeal.main_arg14)
      ∧ m' ((c.tc : Thread Cert.BwdRefIdeal.nD Cert.BwdRefIdeal.τ).loc Cert.BwdRefIdeal.main_arg15) = m ((c.tc : Thread Cert.BwdIdeal.nD Cert.BwdIdeal.τ).loc Cert.BwdIdeal.main_arg15)
      ∧ m' ((c.tc : Thread Cert.BwdRefIdeal.nD Cert.BwdRefIdeal.τ).loc Cert.BwdRefIdeal.main_arg16) = m ((c.tc : Thread Cert.BwdIdeal.nD Cert.BwdIdeal.τ).loc Cert.BwdIdeal.main_arg16)
      ∧ m' ((c.tc : Thread Cert.BwdRefIdeal.nD Cert.BwdRefIdeal.τ).loc Cert.BwdRefIdeal.main_arg17) = m ((c.tc : Thread Cert.BwdIdeal.nD Cert.BwdIdeal.τ).loc Cert.BwdIdeal.main_arg17)) →
    ∃ (v0 : (c : Dev Cert.BwdIdeal.nD) → Buf (Elt Ideal) ((c.tc : Thread Cert.BwdIdeal.nD Cert.BwdIdeal.τ).loc Cert.BwdIdeal.main_v4_0)) (v1 : (c : Dev Cert.BwdIdeal.nD) → Buf (Elt Ideal) ((c.tc : Thread Cert.BwdIdeal.nD Cert.BwdIdeal.τ).loc Cert.BwdIdeal.main_v4_1)) (v2 : (c : Dev Cert.BwdIdeal.nD) → Buf (Elt Ideal) ((c.tc : Thread Cert.BwdIdeal.nD Cert.BwdIdeal.τ).loc Cert.BwdIdeal.main_v4_2)) (v3 : (c : Dev Cert.BwdIdeal.nD) → Buf (Elt Ideal) ((c.tc : Thread Cert.BwdIdeal.nD Cert.BwdIdeal.τ).loc Cert.BwdIdeal.main_v4_3)) (v4 : (c : Dev Cert.BwdIdeal.nD) → Buf (Elt Ideal) ((c.tc : Thread Cert.BwdIdeal.nD Cert.BwdIdeal.τ).loc Cert.BwdIdeal.main_v4_4)) (v5 : (c : Dev Cert.BwdIdeal.nD) → Buf (Elt Ideal) ((c.tc : Thread Cert.BwdIdeal.nD Cert.BwdIdeal.τ).loc Cert.BwdIdeal.main_v4_5)) (v6 : (c : Dev Cert.BwdIdeal.nD) → Buf (Elt Ideal) ((c.tc : Thread Cert.BwdIdeal.nD Cert.BwdIdeal.τ).loc Cert.BwdIdeal.main_v4_6)) (v7 : (c : Dev Cert.BwdIdeal.nD) → Buf (Elt Ideal) ((c.tc : Thread Cert.BwdIdeal.nD Cert.BwdIdeal.τ).loc Cert.BwdIdeal.main_v4_7)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v4_0) = v0 c
          ∧ r.2.mem ((c.tc : Thread Cert.BwdIdeal.nD Cert.BwdIdeal.τ).loc Cert.BwdIdeal.main_v4_1) = v1 c
          ∧ r.2.mem ((c.tc : Thread Cert.BwdIdeal.nD Cert.BwdIdeal.τ).loc Cert.BwdIdeal.main_v4_2) = v2 c
          ∧ r.2.mem ((c.tc : Thread Cert.BwdIdeal.nD Cert.BwdIdeal.τ).loc Cert.BwdIdeal.main_v4_3) = v3 c
          ∧ r.2.mem ((c.tc : Thread Cert.BwdIdeal.nD Cert.BwdIdeal.τ).loc Cert.BwdIdeal.main_v4_4) = v4 c
          ∧ r.2.mem ((c.tc : Thread Cert.BwdIdeal.nD Cert.BwdIdeal.τ).loc Cert.BwdIdeal.main_v4_5) = v5 c
          ∧ r.2.mem ((c.tc : Thread Cert.BwdIdeal.nD Cert.BwdIdeal.τ).loc Cert.BwdIdeal.main_v4_6) = v6 c
          ∧ r.2.mem ((c.tc : Thread Cert.BwdIdeal.nD Cert.BwdIdeal.τ).loc Cert.BwdIdeal.main_v4_7) = v7 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
          ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10)
          ∧ r.2.mem ((c.tc : Thread Cert.BwdIdeal.nD Cert.BwdIdeal.τ).loc Cert.BwdIdeal.main_arg11) = m ((c.tc : Thread Cert.BwdIdeal.nD Cert.BwdIdeal.τ).loc Cert.BwdIdeal.main_arg11)
          ∧ r.2.mem ((c.tc : Thread Cert.BwdIdeal.nD Cert.BwdIdeal.τ).loc Cert.BwdIdeal.main_arg12) = m ((c.tc : Thread Cert.BwdIdeal.nD Cert.BwdIdeal.τ).loc Cert.BwdIdeal.main_arg12)
          ∧ r.2.mem ((c.tc : Thread Cert.BwdIdeal.nD Cert.BwdIdeal.τ).loc Cert.BwdIdeal.main_arg13) = m ((c.tc : Thread Cert.BwdIdeal.nD Cert.BwdIdeal.τ).loc Cert.BwdIdeal.main_arg13)
          ∧ r.2.mem ((c.tc : Thread Cert.BwdIdeal.nD Cert.BwdIdeal.τ).loc Cert.BwdIdeal.main_arg14) = m ((c.tc : Thread Cert.BwdIdeal.nD Cert.BwdIdeal.τ).loc Cert.BwdIdeal.main_arg14)
          ∧ r.2.mem ((c.tc : Thread Cert.BwdIdeal.nD Cert.BwdIdeal.τ).loc Cert.BwdIdeal.main_arg15) = m ((c.tc : Thread Cert.BwdIdeal.nD Cert.BwdIdeal.τ).loc Cert.BwdIdeal.main_arg15)
          ∧ r.2.mem ((c.tc : Thread Cert.BwdIdeal.nD Cert.BwdIdeal.τ).loc Cert.BwdIdeal.main_arg16) = m ((c.tc : Thread Cert.BwdIdeal.nD Cert.BwdIdeal.τ).loc Cert.BwdIdeal.main_arg16)
          ∧ r.2.mem ((c.tc : Thread Cert.BwdIdeal.nD Cert.BwdIdeal.τ).loc Cert.BwdIdeal.main_arg17) = m ((c.tc : Thread Cert.BwdIdeal.nD Cert.BwdIdeal.τ).loc Cert.BwdIdeal.main_arg17))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v28) = v0 c
          ∧ r.2.mem ((c.tc : Thread Cert.BwdRefIdeal.nD Cert.BwdRefIdeal.τ).loc Cert.BwdRefIdeal.main_v82) = v1 c
          ∧ r.2.mem ((c.tc : Thread Cert.BwdRefIdeal.nD Cert.BwdRefIdeal.τ).loc Cert.BwdRefIdeal.main_v83) = v2 c
          ∧ r.2.mem ((c.tc : Thread Cert.BwdRefIdeal.nD Cert.BwdRefIdeal.τ).loc Cert.BwdRefIdeal.main_v56) = v3 c
          ∧ r.2.mem ((c.tc : Thread Cert.BwdRefIdeal.nD Cert.BwdRefIdeal.τ).loc Cert.BwdRefIdeal.main_v76) = v4 c
          ∧ r.2.mem ((c.tc : Thread Cert.BwdRefIdeal.nD Cert.BwdRefIdeal.τ).loc Cert.BwdRefIdeal.main_v84) = v5 c
          ∧ r.2.mem ((c.tc : Thread Cert.BwdRefIdeal.nD Cert.BwdRefIdeal.τ).loc Cert.BwdRefIdeal.main_v60) = v6 c
          ∧ r.2.mem ((c.tc : Thread Cert.BwdRefIdeal.nD Cert.BwdRefIdeal.τ).loc Cert.BwdRefIdeal.main_v80) = v7 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7)
          ∧ r.2.mem ((c.tc : Thread Cert.BwdRefIdeal.nD Cert.BwdRefIdeal.τ).loc Cert.BwdRefIdeal.main_arg8) = m' ((c.tc : Thread Cert.BwdRefIdeal.nD Cert.BwdRefIdeal.τ).loc Cert.BwdRefIdeal.main_arg8)
          ∧ r.2.mem ((c.tc : Thread Cert.BwdRefIdeal.nD Cert.BwdRefIdeal.τ).loc Cert.BwdRefIdeal.main_arg9) = m' ((c.tc : Thread Cert.BwdRefIdeal.nD Cert.BwdRefIdeal.τ).loc Cert.BwdRefIdeal.main_arg9)
          ∧ r.2.mem ((c.tc : Thread Cert.BwdRefIdeal.nD Cert.BwdRefIdeal.τ).loc Cert.BwdRefIdeal.main_arg10) = m' ((c.tc : Thread Cert.BwdRefIdeal.nD Cert.BwdRefIdeal.τ).loc Cert.BwdRefIdeal.main_arg10)
          ∧ r.2.mem ((c.tc : Thread Cert.BwdRefIdeal.nD Cert.BwdRefIdeal.τ).loc Cert.BwdRefIdeal.main_arg11) = m' ((c.tc : Thread Cert.BwdRefIdeal.nD Cert.BwdRefIdeal.τ).loc Cert.BwdRefIdeal.main_arg11)
          ∧ r.2.mem ((c.tc : Thread Cert.BwdRefIdeal.nD Cert.BwdRefIdeal.τ).loc Cert.BwdRefIdeal.main_arg12) = m' ((c.tc : Thread Cert.BwdRefIdeal.nD Cert.BwdRefIdeal.τ).loc Cert.BwdRefIdeal.main_arg12)
          ∧ r.2.mem ((c.tc : Thread Cert.BwdRefIdeal.nD Cert.BwdRefIdeal.τ).loc Cert.BwdRefIdeal.main_arg13) = m' ((c.tc : Thread Cert.BwdRefIdeal.nD Cert.BwdRefIdeal.τ).loc Cert.BwdRefIdeal.main_arg13)
          ∧ r.2.mem ((c.tc : Thread Cert.BwdRefIdeal.nD Cert.BwdRefIdeal.τ).loc Cert.BwdRefIdeal.main_arg14) = m' ((c.tc : Thread Cert.BwdRefIdeal.nD Cert.BwdRefIdeal.τ).loc Cert.BwdRefIdeal.main_arg14)
          ∧ r.2.mem ((c.tc : Thread Cert.BwdRefIdeal.nD Cert.BwdRefIdeal.τ).loc Cert.BwdRefIdeal.main_arg15) = m' ((c.tc : Thread Cert.BwdRefIdeal.nD Cert.BwdRefIdeal.τ).loc Cert.BwdRefIdeal.main_arg15)
          ∧ r.2.mem ((c.tc : Thread Cert.BwdRefIdeal.nD Cert.BwdRefIdeal.τ).loc Cert.BwdRefIdeal.main_arg16) = m' ((c.tc : Thread Cert.BwdRefIdeal.nD Cert.BwdRefIdeal.τ).loc Cert.BwdRefIdeal.main_arg16)
          ∧ r.2.mem ((c.tc : Thread Cert.BwdRefIdeal.nD Cert.BwdRefIdeal.τ).loc Cert.BwdRefIdeal.main_arg17) = m' ((c.tc : Thread Cert.BwdRefIdeal.nD Cert.BwdRefIdeal.τ).loc Cert.BwdRefIdeal.main_arg17))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)) →
    ∃ (v0 : (c : Dev Cert.NormBwdIdeal.nD) → Buf (Elt Ideal) ((c.tc : Thread Cert.NormBwdIdeal.nD Cert.NormBwdIdeal.τ).loc Cert.NormBwdIdeal.main_v3_0)) (v1 : (c : Dev Cert.NormBwdIdeal.nD) → Buf (Elt Ideal) ((c.tc : Thread Cert.NormBwdIdeal.nD Cert.NormBwdIdeal.τ).loc Cert.NormBwdIdeal.main_v3_1)) (v2 : (c : Dev Cert.NormBwdIdeal.nD) → Buf (Elt Ideal) ((c.tc : Thread Cert.NormBwdIdeal.nD Cert.NormBwdIdeal.τ).loc Cert.NormBwdIdeal.main_v3_2)) (v3 : (c : Dev Cert.NormBwdIdeal.nD) → Buf (Elt Ideal) ((c.tc : Thread Cert.NormBwdIdeal.nD Cert.NormBwdIdeal.τ).loc Cert.NormBwdIdeal.main_v3_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v3_0) = v0 c
          ∧ r.2.mem ((c.tc : Thread Cert.NormBwdIdeal.nD Cert.NormBwdIdeal.τ).loc Cert.NormBwdIdeal.main_v3_1) = v1 c
          ∧ r.2.mem ((c.tc : Thread Cert.NormBwdIdeal.nD Cert.NormBwdIdeal.τ).loc Cert.NormBwdIdeal.main_v3_2) = v2 c
          ∧ r.2.mem ((c.tc : Thread Cert.NormBwdIdeal.nD Cert.NormBwdIdeal.τ).loc Cert.NormBwdIdeal.main_v3_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v38) = v0 c
          ∧ r.2.mem ((c.tc : Thread Cert.NormBwdRefIdeal.nD Cert.NormBwdRefIdeal.τ).loc Cert.NormBwdRefIdeal.main_v31) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_v40) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7))

def Claim : Prop :=
  ∃ (hDown : Cert.Down.Facts) (hDownIdeal : Cert.DownIdeal.Facts) (hDownRefIdeal : Cert.DownRefIdeal.Facts) (hBwd : Cert.Bwd.Facts) (hBwdIdeal : Cert.BwdIdeal.Facts) (hBwdRefIdeal : Cert.BwdRefIdeal.Facts) (hNormBwd : Cert.NormBwd.Facts) (hNormBwdIdeal : Cert.NormBwdIdeal.Facts) (hNormBwdRefIdeal : Cert.NormBwdRefIdeal.Facts),
    quiescent_Down (hDown := hDown)
    ∧ quiescent_DownIdeal (hDownIdeal := hDownIdeal)
    ∧ quiescent_DownRefIdeal (hDownRefIdeal := hDownRefIdeal)
    ∧ quiescent_Bwd (hBwd := hBwd)
    ∧ quiescent_BwdIdeal (hBwdIdeal := hBwdIdeal)
    ∧ quiescent_BwdRefIdeal (hBwdRefIdeal := hBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ preserves_Down_DownIdeal
    ∧ algebraic_DownIdeal_DownRefIdeal (hDownIdeal := hDownIdeal) (hDownRefIdeal := hDownRefIdeal)
    ∧ preserves_Bwd_BwdIdeal
    ∧ algebraic_BwdIdeal_BwdRefIdeal (hBwdIdeal := hBwdIdeal) (hBwdRefIdeal := hBwdRefIdeal)
    ∧ preserves_NormBwd_NormBwdIdeal
    ∧ algebraic_NormBwdIdeal_NormBwdRefIdeal (hNormBwdIdeal := hNormBwdIdeal) (hNormBwdRefIdeal := hNormBwdRefIdeal)
-- ==== Down.lean ====
abbrev S2x512x4096 : Shape := ⟨3, ![2, 512, 4096]⟩
abbrev S1024x11008 : Shape := ⟨2, ![1024, 11008]⟩
abbrev S1024x32 : Shape := ⟨2, ![1024, 32]⟩
abbrev S4096x11008 : Shape := ⟨2, ![4096, 11008]⟩
abbrev S4096 : Shape := ⟨1, ![4096]⟩
abbrev S32x11008 : Shape := ⟨2, ![32, 11008]⟩
abbrev S4096x32 : Shape := ⟨2, ![4096, 32]⟩
abbrev S1024x4096 : Shape := ⟨2, ![1024, 4096]⟩
abbrev S1x4096 : Shape := ⟨2, ![1, 4096]⟩
abbrev S256x11008 : Shape := ⟨2, ![256, 11008]⟩
abbrev S1x256 : Shape := ⟨2, ![1, 256]⟩
abbrev S256x32 : Shape := ⟨2, ![256, 32]⟩
abbrev S1024x256 : Shape := ⟨2, ![1024, 256]⟩
abbrev S32x32 : Shape := ⟨2, ![32, 32]⟩
abbrev S32x256 : Shape := ⟨2, ![32, 256]⟩
abbrev S256x128 : Shape := ⟨2, ![256, 128]⟩
abbrev S128x256 : Shape := ⟨2, ![128, 256]⟩
abbrev S256 : Shape := ⟨1, ![256]⟩

abbrev nBuf : Space → Nat
  | .hbm => 19
  | .vmem => 28
  | .smem => 0
  | _ => 0

abbrev bufTy : (tb : Table) → Fin (tcTables nBuf tb) → BufTy
  | .hbm, ⟨0, _⟩ => ⟨S2x512x4096, .bf16⟩
  | .hbm, ⟨1, _⟩ => ⟨S2x512x4096, .bf16⟩
  | .hbm, ⟨2, _⟩ => ⟨S1024x11008, .bf16⟩
  | .hbm, ⟨3, _⟩ => ⟨S1024x32, .bf16⟩
  | .hbm, ⟨4, _⟩ => ⟨S4096x11008, .i8⟩
  | .hbm, ⟨5, _⟩ => ⟨S4096, .f32⟩
  | .hbm, ⟨6, _⟩ => ⟨S32x11008, .bf16⟩
  | .hbm, ⟨7, _⟩ => ⟨S4096x32, .bf16⟩
  | .hbm, ⟨8, _⟩ => ⟨S4096, .f32⟩
  | .hbm, ⟨9, _⟩ => ⟨S1024x4096, .bf16⟩
  | .hbm, ⟨10, _⟩ => ⟨S1024x4096, .bf16⟩
  | .hbm, ⟨11, _⟩ => ⟨S1x4096, .f32⟩
  | .hbm, ⟨12, _⟩ => ⟨S1x4096, .f32⟩
  | .hbm, ⟨13, _⟩ => ⟨S1024x4096, .bf16⟩
  | .hbm, ⟨14, _⟩ => ⟨S1024x4096, .bf16⟩
  | .hbm, ⟨15, _⟩ => ⟨S1x4096, .f32⟩
  | .hbm, ⟨16, _⟩ => ⟨S1x4096, .f32⟩
  | .hbm, ⟨17, _⟩ => ⟨S4096x32, .f32⟩
  | .hbm, ⟨18, _⟩ => ⟨S1024x32, .bf16⟩
  | .local _ .vmem, ⟨0, _⟩ => ⟨S1024x11008, .bf16⟩
  | .local _ .vmem, ⟨1, _⟩ => ⟨S1024x32, .bf16⟩
  | .local _ .vmem, ⟨2, _⟩ => ⟨S32x11008, .bf16⟩
  | .local _ .vmem, ⟨3, _⟩ => ⟨S256x11008, .i8⟩
  | .local _ .vmem, ⟨4, _⟩ => ⟨S256x11008, .i8⟩
  | .local _ .vmem, ⟨5, _⟩ => ⟨S1x256, .f32⟩
  | .local _ .vmem, ⟨6, _⟩ => ⟨S1x256, .f32⟩
  | .local _ .vmem, ⟨7, _⟩ => ⟨S256x32, .bf16⟩
  | .local _ .vmem, ⟨8, _⟩ => ⟨S256x32, .bf16⟩
  | .local _ .vmem, ⟨9, _⟩ => ⟨S1x256, .f32⟩
  | .local _ .vmem, ⟨10, _⟩ => ⟨S1x256, .f32⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S256x32, .f32⟩
  | .local _ .vmem, ⟨24, _⟩ => ⟨S256x32, .f32⟩
  | .local _ .vmem, ⟨25, _⟩ => ⟨S1024x32, .bf16⟩
  | .local _ .vmem, ⟨26, _⟩ => ⟨S32x32, .f32⟩
  | .local _ .vmem, ⟨27, _⟩ => ⟨S1024x32, .f32⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v427 : BitVec 1 := Scalar.cmpi .eq arg0 c15_i32
  let v428 : BitVec 32 := Scalar.extui v427
  let c0_i32_136 : BitVec 32 := 0#32
  let v429 : BitVec 1 := Scalar.cmpi .ne v428 c0_i32_136
  v429

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x11008 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x11008 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x32 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== DownRefIdeal.lean ====
abbrev S2x512x4096 : Shape := ⟨3, ![2, 512, 4096]⟩
abbrev S1024x11008 : Shape := ⟨2, ![1024, 11008]⟩
abbrev S1024x32 : Shape := ⟨2, ![1024, 32]⟩
abbrev S4096x11008 : Shape := ⟨2, ![4096, 11008]⟩
abbrev S4096 : Shape := ⟨1, ![4096]⟩
abbrev S32x11008 : Shape := ⟨2, ![32, 11008]⟩
abbrev S4096x32 : Shape := ⟨2, ![4096, 32]⟩
abbrev S1024x4096 : Shape := ⟨2, ![1024, 4096]⟩
abbrev S_ : Shape := ⟨0, ![]⟩
abbrev S4096x1 : Shape := ⟨2, ![4096, 1]⟩
abbrev S32x32 : Shape := ⟨2, ![32, 32]⟩
abbrev S1x4096 : Shape := ⟨2, ![1, 4096]⟩

abbrev nBuf : Space → Nat
  | .hbm => 83
  | .vmem => 0
  | .smem => 0
  | _ => 0

abbrev bufTy : (tb : Table) → Fin (tcTables nBuf tb) → BufTy
  | .hbm, ⟨0, _⟩ => ⟨S2x512x4096, .bf16⟩
  | .hbm, ⟨1, _⟩ => ⟨S2x512x4096, .bf16⟩
  | .hbm, ⟨2, _⟩ => ⟨S1024x11008, .bf16⟩
  | .hbm, ⟨3, _⟩ => ⟨S1024x32, .bf16⟩
  | .hbm, ⟨4, _⟩ => ⟨S4096x11008, .i8⟩
  | .hbm, ⟨5, _⟩ => ⟨S4096, .f32⟩
  | .hbm, ⟨6, _⟩ => ⟨S32x11008, .bf16⟩
  | .hbm, ⟨7, _⟩ => ⟨S4096x32, .bf16⟩
  | .hbm, ⟨8, _⟩ => ⟨S4096, .f32⟩
  | .hbm, ⟨9, _⟩ => ⟨S1024x4096, .bf16⟩
  | .hbm, ⟨10, _⟩ => ⟨S1024x4096, .f32⟩
  | .hbm, ⟨11, _⟩ => ⟨S1024x4096, .bf16⟩
  | .hbm, ⟨12, _⟩ => ⟨S1024x4096, .f32⟩
  | .hbm, ⟨13, _⟩ => ⟨S4096x11008, .i32⟩
  | .hbm, ⟨14, _⟩ => ⟨S4096x11008, .f32⟩
  | .hbm, ⟨15, _⟩ => ⟨S4096x11008, .bf16⟩
  | .hbm, ⟨16, _⟩ => ⟨S4096, .f32⟩
  | .hbm, ⟨17, _⟩ => ⟨S4096x11008, .i32⟩
  | .hbm, ⟨18, _⟩ => ⟨S4096x11008, .i32⟩
  | .hbm, ⟨19, _⟩ => ⟨S_, .i32⟩
  | .hbm, ⟨20, _⟩ => ⟨S4096, .i32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S32x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096x32, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S1024x4096, .f32⟩
  | .hbm, ⟨47, _⟩ => ⟨S1x4096, .f32⟩
  | .hbm, ⟨48, _⟩ => ⟨S1024x4096, .f32⟩
  | .hbm, ⟨49, _⟩ => ⟨S1024x4096, .f32⟩
  | .hbm, ⟨50, _⟩ => ⟨S1024x4096, .f32⟩
  | .hbm, ⟨51, _⟩ => ⟨S_, .f32⟩
  | .hbm, ⟨52, _⟩ => ⟨S1024x4096, .f32⟩
  | .hbm, ⟨53, _⟩ => ⟨S1024x4096, .f32⟩
  | .hbm, ⟨54, _⟩ => ⟨S1024x4096, .f32⟩
  | .hbm, ⟨55, _⟩ => ⟨S1x4096, .f32⟩
  | .hbm, ⟨56, _⟩ => ⟨S1024x4096, .f32⟩
  | .hbm, ⟨57, _⟩ => ⟨S1024x4096, .f32⟩
  | .hbm, ⟨58, _⟩ => ⟨S1024x4096, .f32⟩
  | .hbm, ⟨59, _⟩ => ⟨S1024x4096, .bf16⟩
  | .hbm, ⟨60, _⟩ => ⟨S1024x4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S1x4096, .f32⟩
  | .hbm, ⟨65, _⟩ => ⟨S1024x4096, .f32⟩
  | .hbm, ⟨66, _⟩ => ⟨S1024x4096, .f32⟩
  | .hbm, ⟨67, _⟩ => ⟨S1024x4096, .bf16⟩
  | .hbm, ⟨68, _⟩ => ⟨S1x4096, .f32⟩
  | .hbm, ⟨69, _⟩ => ⟨S1024x4096, .f32⟩
  | .hbm, ⟨70, _⟩ => ⟨S1024x4096, .f32⟩
  | .hbm, ⟨71, _⟩ => ⟨S1024x4096, .bf16⟩
  | .hbm, ⟨72, _⟩ => ⟨S4096x32, .f32⟩
  | .hbm, ⟨73, _⟩ => ⟨S_, .f32⟩
  | .hbm, ⟨74, _⟩ => ⟨S4096x32, .f32⟩
  | .hbm, ⟨75, _⟩ => ⟨S4096x32, .f32⟩
  | .hbm, ⟨76, _⟩ => ⟨S1024x32, .f32⟩
  | .hbm, ⟨77, _⟩ => ⟨S_, .f32⟩
  | .hbm, ⟨78, _⟩ => ⟨S1024x32, .f32⟩
  | .hbm, ⟨79, _⟩ => ⟨S1024x32, .f32⟩
  | .hbm, ⟨80, _⟩ => ⟨S1024x32, .bf16⟩
  | .hbm, ⟨81, _⟩ => ⟨S1x4096, .f32⟩
  | .hbm, ⟨82, _⟩ => ⟨S1x4096, .f32⟩
  | _, _ => ⟨S2x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Bwd.lean ====
abbrev S1024x4096 : Shape := ⟨2, ![1024, 4096]⟩
abbrev S1024x32 : Shape := ⟨2, ![1024, 32]⟩
abbrev S32x11008 : Shape := ⟨2, ![32, 11008]⟩
abbrev S4096x11008 : Shape := ⟨2, ![4096, 11008]⟩
abbrev S1024x11008 : Shape := ⟨2, ![1024, 11008]⟩
abbrev S11008x4096 : Shape := ⟨2, ![11008, 4096]⟩
abbrev S11008 : Shape := ⟨1, ![11008]⟩
abbrev S11008x32 : Shape := ⟨2, ![11008, 32]⟩
abbrev S1x11008 : Shape := ⟨2, ![1, 11008]⟩
abbrev S32x256 : Shape := ⟨2, ![32, 256]⟩
abbrev S4096x256 : Shape := ⟨2, ![4096, 256]⟩
abbrev S1024x256 : Shape := ⟨2, ![1024, 256]⟩
abbrev S256x4096 : Shape := ⟨2, ![256, 4096]⟩
abbrev S1x256 : Shape := ⟨2, ![1, 256]⟩
abbrev S256x32 : Shape := ⟨2, ![256, 32]⟩
abbrev S256 : Shape := ⟨1, ![256]⟩

abbrev nBuf : Space → Nat
  | .hbm => 30
  | .vmem => 47
  | .smem => 0
  | _ => 0

abbrev bufTy : (tb : Table) → Fin (tcTables nBuf tb) → BufTy
  | .hbm, ⟨0, _⟩ => ⟨S1024x4096, .bf16⟩
  | .hbm, ⟨1, _⟩ => ⟨S1024x32, .bf16⟩
  | .hbm, ⟨2, _⟩ => ⟨S1024x32, .bf16⟩
  | .hbm, ⟨3, _⟩ => ⟨S1024x32, .bf16⟩
  | .hbm, ⟨4, _⟩ => ⟨S32x11008, .bf16⟩
  | .hbm, ⟨5, _⟩ => ⟨S4096x11008, .i8⟩
  | .hbm, ⟨6, _⟩ => ⟨S1024x11008, .f32⟩
  | .hbm, ⟨7, _⟩ => ⟨S1024x11008, .f32⟩
  | .hbm, ⟨8, _⟩ => ⟨S11008x4096, .i8⟩
  | .hbm, ⟨9, _⟩ => ⟨S11008, .f32⟩
  | .hbm, ⟨10, _⟩ => ⟨S11008x32, .bf16⟩
  | .hbm, ⟨11, _⟩ => ⟨S11008, .f32⟩
  | .hbm, ⟨12, _⟩ => ⟨S1x11008, .f32⟩
  | .hbm, ⟨13, _⟩ => ⟨S11008x4096, .i8⟩
  | .hbm, ⟨14, _⟩ => ⟨S11008, .f32⟩
  | .hbm, ⟨15, _⟩ => ⟨S11008x32, .bf16⟩
  | .hbm, ⟨16, _⟩ => ⟨S11008, .f32⟩
  | .hbm, ⟨17, _⟩ => ⟨S1x11008, .f32⟩
  | .hbm, ⟨18, _⟩ => ⟨S1x11008, .f32⟩
  | .hbm, ⟨19, _⟩ => ⟨S1x11008, .f32⟩
  | .hbm, ⟨20, _⟩ => ⟨S1x11008, .f32⟩
  | .hbm, ⟨21, _⟩ => ⟨S1x11008, .f32⟩
  | .hbm, ⟨22, _⟩ => ⟨S32x11008, .f32⟩
  | .hbm, ⟨23, _⟩ => ⟨S1x11008, .f32⟩
  | .hbm, ⟨24, _⟩ => ⟨S1x11008, .f32⟩
  | .hbm, ⟨25, _⟩ => ⟨S11008x32, .f32⟩
  | .hbm, ⟨26, _⟩ => ⟨S11008x32, .f32⟩
  | .hbm, ⟨27, _⟩ => ⟨S1024x4096, .f32⟩
  | .hbm, ⟨28, _⟩ => ⟨S1024x32, .bf16⟩
  | .hbm, ⟨29, _⟩ => ⟨S1024x32, .bf16⟩
  | .local _ .vmem, ⟨0, _⟩ => ⟨S1024x4096, .bf16⟩
  | .local _ .vmem, ⟨1, _⟩ => ⟨S1024x32, .bf16⟩
  | .local _ .vmem, ⟨2, _⟩ => ⟨S1024x32, .bf16⟩
  | .local _ .vmem, ⟨3, _⟩ => ⟨S1024x32, .bf16⟩
  | .local _ .vmem, ⟨4, _⟩ => ⟨S32x256, .bf16⟩
  | .local _ .vmem, ⟨5, _⟩ => ⟨S32x256, .bf16⟩
  | .local _ .vmem, ⟨6, _⟩ => ⟨S4096x256, .i8⟩
  | .local _ .vmem, ⟨7, _⟩ => ⟨S4096x256, .i8⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S256x4096, .i8⟩
  | .local _ .vmem, ⟨13, _⟩ => ⟨S256x4096, .i8⟩
  | .local _ .vmem, ⟨14, _⟩ => ⟨S1x256, .f32⟩
  | .local _ .vmem, ⟨15, _⟩ => ⟨S1x256, .f32⟩
  | .local _ .vmem, ⟨16, _⟩ => ⟨S256x32, .bf16⟩
  | .local _ .vmem, ⟨17, _⟩ => ⟨S256x32, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x4096, .i8⟩
  | .local _ .vmem, ⟨23, _⟩ => ⟨S256x4096, .i8⟩
  | .local _ .vmem, ⟨24, _⟩ => ⟨S1x256, .f32⟩
  | .local _ .vmem, ⟨25, _⟩ => ⟨S1x256, .f32⟩
  | .local _ .vmem, ⟨26, _⟩ => ⟨S256x32, .bf16⟩
  | .local _ .vmem, ⟨27, _⟩ => ⟨S256x32, .bf16⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S32x256, .f32⟩
  | .local _ .vmem, ⟨33, _⟩ => ⟨S32x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S256x32, .f32⟩
  | .local _ .vmem, ⟨39, _⟩ => ⟨S256x32, .f32⟩
  | .local _ .vmem, ⟨40, _⟩ => ⟨S256x32, .f32⟩
  | .local _ .vmem, ⟨41, _⟩ => ⟨S256x32, .f32⟩
  | .local _ .vmem, ⟨42, _⟩ => ⟨S1024x4096, .f32⟩
  | .local _ .vmem, ⟨43, _⟩ => ⟨S1024x32, .bf16⟩
  | .local _ .vmem, ⟨44, _⟩ => ⟨S1024x32, .bf16⟩
  | .local _ .vmem, ⟨45, _⟩ => ⟨S1024x32, .f32⟩
  | .local _ .vmem, ⟨46, _⟩ => ⟨S1024x32, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v4_2 : Ref sig .tc := ⟨.hbm, 24, rfl⟩
abbrev main_v4_3 : Ref sig .tc := ⟨.hbm, 25, rfl⟩
abbrev main_v4_4 : Ref sig .tc := ⟨.hbm, 26, rfl⟩
abbrev main_v4_5 : Ref sig .tc := ⟨.hbm, 27, rfl⟩
abbrev main_v4_6 : Ref sig .tc := ⟨.hbm, 28, rfl⟩
abbrev main_v4_7 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg24_0 : Ref sig .tc := ⟨.vmem, 43, rfl⟩
abbrev cc0_stg25_0 : Ref sig .tc := ⟨.vmem, 44, rfl⟩
abbrev cc0_scratch0 : Ref sig .tc := ⟨.vmem, 45, rfl⟩
abbrev cc0_scratch1 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem24_0 : DmaSem sig := 43
abbrev cc0_sem25_0 : DmaSem sig := 44

abbrev nD : Nat := 1
abbrev τ : Topo := Topo.v7x

variable {F : FTy → Type} [FloatOps F]

abbrev grid0 : Pipeline.Grid := ⟨1, ![43], ![false]⟩

def k0_cond2 (i : grid0.Coords) : BitVec 1 :=
  let arg0 : BitVec 32 := BitVec.ofNat 32 (i 0).val
  let c42_i32 : BitVec 32 := 42#32
  let v107 : BitVec 1 := Scalar.cmpi .eq arg0 c42_i32
  let v108 : BitVec 32 := Scalar.extui v107
  let c0_i32_78 : BitVec 32 := 0#32
  let v109 : BitVec 1 := Scalar.cmpi .ne v108 c0_i32_78
  v109

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x32 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x32 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1024x4096 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x32 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x32 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== BwdRefIdeal.lean ====
abbrev S1024x4096 : Shape := ⟨2, ![1024, 4096]⟩
abbrev S1024x32 : Shape := ⟨2, ![1024, 32]⟩
abbrev S32x11008 : Shape := ⟨2, ![32, 11008]⟩
abbrev S4096x11008 : Shape := ⟨2, ![4096, 11008]⟩
abbrev S1024x11008 : Shape := ⟨2, ![1024, 11008]⟩
abbrev S11008x4096 : Shape := ⟨2, ![11008, 4096]⟩
abbrev S11008 : Shape := ⟨1, ![11008]⟩
abbrev S11008x32 : Shape := ⟨2, ![11008, 32]⟩
abbrev S1x11008 : Shape := ⟨2, ![1, 11008]⟩
abbrev S_ : Shape := ⟨0, ![]⟩

abbrev nBuf : Space → Nat
  | .hbm => 113
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x32, .bf16⟩
  | .hbm, ⟨2, _⟩ => ⟨S1024x32, .bf16⟩
  | .hbm, ⟨3, _⟩ => ⟨S1024x32, .bf16⟩
  | .hbm, ⟨4, _⟩ => ⟨S32x11008, .bf16⟩
  | .hbm, ⟨5, _⟩ => ⟨S4096x11008, .i8⟩
  | .hbm, ⟨6, _⟩ => ⟨S1024x11008, .f32⟩
  | .hbm, ⟨7, _⟩ => ⟨S1024x11008, .f32⟩
  | .hbm, ⟨8, _⟩ => ⟨S11008x4096, .i8⟩
  | .hbm, ⟨9, _⟩ => ⟨S11008, .f32⟩
  | .hbm, ⟨10, _⟩ => ⟨S11008x32, .bf16⟩
  | .hbm, ⟨11, _⟩ => ⟨S11008, .f32⟩
  | .hbm, ⟨12, _⟩ => ⟨S1x11008, .f32⟩
  | .hbm, ⟨13, _⟩ => ⟨S11008x4096, .i8⟩
  | .hbm, ⟨14, _⟩ => ⟨S11008, .f32⟩
  | .hbm, ⟨15, _⟩ => ⟨S11008x32, .bf16⟩
  | .hbm, ⟨16, _⟩ => ⟨S11008, .f32⟩
  | .hbm, ⟨17, _⟩ => ⟨S1x11008, .f32⟩
  | .hbm, ⟨18, _⟩ => ⟨S11008x4096, .i32⟩
  | .hbm, ⟨19, _⟩ => ⟨S11008x4096, .f32⟩
  | .hbm, ⟨20, _⟩ => ⟨S11008x4096, .bf16⟩
  | .hbm, ⟨21, _⟩ => ⟨S11008x4096, .i32⟩
  | .hbm, ⟨22, _⟩ => ⟨S11008x4096, .f32⟩
  | .hbm, ⟨23, _⟩ => ⟨S11008x4096, .bf16⟩
  | .hbm, ⟨24, _⟩ => ⟨S4096x11008, .i32⟩
  | .hbm, ⟨25, _⟩ => ⟨S4096x11008, .f32⟩
  | .hbm, ⟨26, _⟩ => ⟨S4096x11008, .bf16⟩
  | .hbm, ⟨27, _⟩ => ⟨S11008, .f32⟩
  | .hbm, ⟨28, _⟩ => ⟨S11008, .f32⟩
  | .hbm, ⟨29, _⟩ => ⟨S11008, .f32⟩
  | .hbm, ⟨30, _⟩ => ⟨S11008, .f32⟩
  | .hbm, ⟨31, _⟩ => ⟨S1x11008, .f32⟩
  | .hbm, ⟨32, _⟩ => ⟨S1024x11008, .f32⟩
  | .hbm, ⟨33, _⟩ => ⟨S1024x11008, .f32⟩
  | .hbm, ⟨34, _⟩ => ⟨S1x11008, .f32⟩
  | .hbm, ⟨35, _⟩ => ⟨S1024x11008, .f32⟩
  | .hbm, ⟨36, _⟩ => ⟨S1024x11008, .f32⟩
  | .hbm, ⟨37, _⟩ => ⟨S1024x11008, .f32⟩
  | .hbm, ⟨38, _⟩ => ⟨S1024x11008, .f32⟩
  | .hbm, ⟨39, _⟩ => ⟨S_, .f32⟩
  | .hbm, ⟨40, _⟩ => ⟨S1024x11008, .f32⟩
  | .hbm, ⟨41, _⟩ => ⟨S1024x11008, .f32⟩
  | .hbm, ⟨42, _⟩ => ⟨S_, .f32⟩
  | .hbm, ⟨43, _⟩ => ⟨S1024x11008, .f32⟩
  | .hbm, ⟨44, _⟩ => ⟨S1024x11008, .f32⟩
  | .hbm, ⟨45, _⟩ => ⟨S1024x11008, .f32⟩
  | .hbm, ⟨46, _⟩ => ⟨S1024x11008, .f32⟩
  | .hbm, ⟨47, _⟩ => ⟨S1024x11008, .bf16⟩
  | .hbm, ⟨48, _⟩ => ⟨S32x11008, .f32⟩
  | .hbm, ⟨49, _⟩ => ⟨S1024x11008, .f32⟩
  | .hbm, ⟨50, _⟩ => ⟨S1024x11008, .f32⟩
  | .hbm, ⟨51, _⟩ => ⟨S1024x11008, .f32⟩
  | .hbm, ⟨52, _⟩ => ⟨S1024x11008, .f32⟩
  | .hbm, ⟨53, _⟩ => ⟨S1024x11008, .f32⟩
  | .hbm, ⟨54, _⟩ => ⟨S1024x11008, .f32⟩
  | .hbm, ⟨55, _⟩ => ⟨S1024x11008, .f32⟩
  | .hbm, ⟨56, _⟩ => ⟨S_, .f32⟩
  | .hbm, ⟨57, _⟩ => ⟨S1024x11008, .f32⟩
  | .hbm, ⟨58, _⟩ => ⟨S1024x11008, .f32⟩
  | .hbm, ⟨59, _⟩ => ⟨S1024x11008, .f32⟩
  | .hbm, ⟨60, _⟩ => ⟨S_, .f32⟩
  | .hbm, ⟨61, _⟩ => ⟨S1024x11008, .f32⟩
  | .hbm, ⟨62, _⟩ => ⟨S1024x11008, .f32⟩
  | .hbm, ⟨63, _⟩ => ⟨S1024x11008, .f32⟩
  | .hbm, ⟨64, _⟩ => ⟨S11008, .f32⟩
  | .hbm, ⟨65, _⟩ => ⟨S1024x11008, .f32⟩
  | .hbm, ⟨66, _⟩ => ⟨S_, .f32⟩
  | .hbm, ⟨67, _⟩ => ⟨S11008, .f32⟩
  | .hbm, ⟨68, _⟩ => ⟨S11008, .f32⟩
  | .hbm, ⟨69, _⟩ => ⟨S1x11008, .f32⟩
  | .hbm, ⟨70, _⟩ => ⟨S1024x11008, .f32⟩
  | .hbm, ⟨71, _⟩ => ⟨S1024x11008, .f32⟩
  | .hbm, ⟨72, _⟩ => ⟨S1024x11008, .bf16⟩
  | .hbm, ⟨73, _⟩ => ⟨S1x11008, .f32⟩
  | .hbm, ⟨74, _⟩ => ⟨S1024x11008, .f32⟩
  | .hbm, ⟨75, _⟩ => ⟨S1024x11008, .f32⟩
  | .hbm, ⟨76, _⟩ => ⟨S1024x11008, .bf16⟩
  | .hbm, ⟨77, _⟩ => ⟨S11008x32, .f32⟩
  | .hbm, ⟨78, _⟩ => ⟨S_, .f32⟩
  | .hbm, ⟨79, _⟩ => ⟨S11008x32, .f32⟩
  | .hbm, ⟨80, _⟩ => ⟨S11008x32, .f32⟩
  | .hbm, ⟨81, _⟩ => ⟨S1024x32, .f32⟩
  | .hbm, ⟨82, _⟩ => ⟨S_, .f32⟩
  | .hbm, ⟨83, _⟩ => ⟨S1024x32, .f32⟩
  | .hbm, ⟨84, _⟩ => ⟨S1024x32, .f32⟩
  | .hbm, ⟨85, _⟩ => ⟨S1024x32, .bf16⟩
  | .hbm, ⟨86, _⟩ => ⟨S1024x4096, .f32⟩
  | .hbm, ⟨87, _⟩ => ⟨S11008, .f32⟩
  | .hbm, ⟨88, _⟩ => ⟨S1024x11008, .f32⟩
  | .hbm, ⟨89, _⟩ => ⟨S_, .f32⟩
  | .hbm, ⟨90, _⟩ => ⟨S11008, .f32⟩
  | .hbm, ⟨91, _⟩ => ⟨S11008, .f32⟩
  | .hbm, ⟨92, _⟩ => ⟨S1x11008, .f32⟩
  | .hbm, ⟨93, _⟩ => ⟨S1024x11008, .f32⟩
  | .hbm, ⟨94, _⟩ => ⟨S1024x11008, .f32⟩
  | .hbm, ⟨95, _⟩ => ⟨S1024x11008, .bf16⟩
  | .hbm, ⟨96, _⟩ => ⟨S1x11008, .f32⟩
  | .hbm, ⟨97, _⟩ => ⟨S1024x11008, .f32⟩
  | .hbm, ⟨98, _⟩ => ⟨S1024x11008, .f32⟩
  | .hbm, ⟨99, _⟩ => ⟨S1024x11008, .bf16⟩
  | .hbm, ⟨100, _⟩ => ⟨S11008x32, .f32⟩
  | .hbm, ⟨101, _⟩ => ⟨S_, .f32⟩
  | .hbm, ⟨102, _⟩ => ⟨S11008x32, .f32⟩
  | .hbm, ⟨103, _⟩ => ⟨S11008x32, .f32⟩
  | .hbm, ⟨104, _⟩ => ⟨S1024x32, .f32⟩
  | .hbm, ⟨105, _⟩ => ⟨S_, .f32⟩
  | .hbm, ⟨106, _⟩ => ⟨S1024x32, .f32⟩
  | .hbm, ⟨107, _⟩ => ⟨S1024x32, .f32⟩
  | .hbm, ⟨108, _⟩ => ⟨S1024x32, .bf16⟩
  | .hbm, ⟨109, _⟩ => ⟨S1024x4096, .f32⟩
  | .hbm, ⟨110, _⟩ => ⟨S1x11008, .f32⟩
  | .hbm, ⟨111, _⟩ => ⟨S1x11008, .f32⟩
  | .hbm, ⟨112, _⟩ => ⟨S1024x4096, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_cst_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_4 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_6 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_7 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_8 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== NormBwd.lean ====
abbrev S2x512x4096 : Shape := ⟨3, ![2, 512, 4096]⟩
abbrev S1024x4096 : Shape := ⟨2, ![1024, 4096]⟩
abbrev S4096 : Shape := ⟨1, ![4096]⟩
abbrev S1024x32 : Shape := ⟨2, ![1024, 32]⟩
abbrev S32x4096 : Shape := ⟨2, ![32, 4096]⟩
abbrev S1x4096 : Shape := ⟨2, ![1, 4096]⟩
abbrev S1024x1 : Shape := ⟨2, ![1024, 1]⟩
abbrev S128x4096 : Shape := ⟨2, ![128, 4096]⟩
abbrev S128x32 : Shape := ⟨2, ![128, 32]⟩
abbrev S128x1 : Shape := ⟨2, ![128, 1]⟩
abbrev S128 : Shape := ⟨1, ![128]⟩

abbrev nBuf : Space → Nat
  | .hbm => 15
  | .vmem => 19
  | .smem => 0
  | _ => 0

abbrev bufTy : (tb : Table) → Fin (tcTables nBuf tb) → BufTy
  | .hbm, ⟨0, _⟩ => ⟨S2x512x4096, .bf16⟩
  | .hbm, ⟨1, _⟩ => ⟨S2x512x4096, .bf16⟩
  | .hbm, ⟨2, _⟩ => ⟨S1024x4096, .f32⟩
  | .hbm, ⟨3, _⟩ => ⟨S4096, .f32⟩
  | .hbm, ⟨4, _⟩ => ⟨S1024x32, .bf16⟩
  | .hbm, ⟨5, _⟩ => ⟨S1024x32, .bf16⟩
  | .hbm, ⟨6, _⟩ => ⟨S32x4096, .bf16⟩
  | .hbm, ⟨7, _⟩ => ⟨S32x4096, .bf16⟩
  | .hbm, ⟨8, _⟩ => ⟨S1024x4096, .bf16⟩
  | .hbm, ⟨9, _⟩ => ⟨S1024x4096, .bf16⟩
  | .hbm, ⟨10, _⟩ => ⟨S1x4096, .f32⟩
  | .hbm, ⟨11, _⟩ => ⟨S1024x4096, .bf16⟩
  | .hbm, ⟨12, _⟩ => ⟨S1024x1, .f32⟩
  | .hbm, ⟨13, _⟩ => ⟨S32x4096, .f32⟩
  | .hbm, ⟨14, _⟩ => ⟨S32x4096, .f32⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x32, .bf16⟩
  | .local _ .vmem, ⟨8, _⟩ => ⟨S128x32, .bf16⟩
  | .local _ .vmem, ⟨9, _⟩ => ⟨S128x32, .bf16⟩
  | .local _ .vmem, ⟨10, _⟩ => ⟨S128x32, .bf16⟩
  | .local _ .vmem, ⟨11, _⟩ => ⟨S32x4096, .bf16⟩
  | .local _ .vmem, ⟨12, _⟩ => ⟨S32x4096, .bf16⟩
  | .local _ .vmem, ⟨13, _⟩ => ⟨S128x4096, .bf16⟩
  | .local _ .vmem, ⟨14, _⟩ => ⟨S128x4096, .bf16⟩
  | .local _ .vmem, ⟨15, _⟩ => ⟨S128x1, .f32⟩
  | .local _ .vmem, ⟨16, _⟩ => ⟨S128x1, .f32⟩
  | .local _ .vmem, ⟨17, _⟩ => ⟨S32x4096, .f32⟩
  | .local _ .vmem, ⟨18, _⟩ => ⟨S32x4096, .f32⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== NormBwdRefIdeal.lean ====
abbrev S2x512x4096 : Shape := ⟨3, ![2, 512, 4096]⟩
abbrev S1024x4096 : Shape := ⟨2, ![1024, 4096]⟩
abbrev S4096 : Shape := ⟨1, ![4096]⟩
abbrev S1024x32 : Shape := ⟨2, ![1024, 32]⟩
abbrev S32x4096 : Shape := ⟨2, ![32, 4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S2x512x4096, .bf16⟩
  | .hbm, ⟨1, _⟩ => ⟨S2x512x4096, .bf16⟩
  | .hbm, ⟨2, _⟩ => ⟨S1024x4096, .f32⟩
  | .hbm, ⟨3, _⟩ => ⟨S4096, .f32⟩
  | .hbm, ⟨4, _⟩ => ⟨S1024x32, .bf16⟩
  | .hbm, ⟨5, _⟩ => ⟨S1024x32, .bf16⟩
  | .hbm, ⟨6, _⟩ => ⟨S32x4096, .bf16⟩
  | .hbm, ⟨7, _⟩ => ⟨S32x4096, .bf16⟩
  | .hbm, ⟨8, _⟩ => ⟨S1024x4096, .bf16⟩
  | .hbm, ⟨9, _⟩ => ⟨S1024x4096, .f32⟩
  | .hbm, ⟨10, _⟩ => ⟨S1024x4096, .bf16⟩
  | .hbm, ⟨11, _⟩ => ⟨S1024x4096, .f32⟩
  | .hbm, ⟨12, _⟩ => ⟨S1024x4096, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x4096, .f32⟩
  | .hbm, ⟨27, _⟩ => ⟨S1024x4096, .f32⟩
  | .hbm, ⟨28, _⟩ => ⟨S1x4096, .f32⟩
  | .hbm, ⟨29, _⟩ => ⟨S1024x4096, .f32⟩
  | .hbm, ⟨30, _⟩ => ⟨S1024x4096, .f32⟩
  | .hbm, ⟨31, _⟩ => ⟨S1024x4096, .bf16⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S1024x4096, .f32⟩
  | .hbm, ⟨36, _⟩ => ⟨S1x4096, .f32⟩
  | .hbm, ⟨37, _⟩ => ⟨S1024x4096, .f32⟩
  | .hbm, ⟨38, _⟩ => ⟨S1024x4096, .f32⟩
  | .hbm, ⟨39, _⟩ => ⟨S1024x4096, .f32⟩
  | .hbm, ⟨40, _⟩ => ⟨S_, .f32⟩
  | .hbm, ⟨41, _⟩ => ⟨S1024, .f32⟩
  | .hbm, ⟨42, _⟩ => ⟨S1024x1, .f32⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S1024x4096, .f32⟩
  | .hbm, ⟨47, _⟩ => ⟨S1024x4096, .f32⟩
  | .hbm, ⟨48, _⟩ => ⟨S1024x4096, .f32⟩
  | .hbm, ⟨49, _⟩ => ⟨S1024x4096, .f32⟩
  | .hbm, ⟨50, _⟩ => ⟨S1024x4096, .f32⟩
  | .hbm, ⟨51, _⟩ => ⟨S1024x4096, .f32⟩
  | .hbm, ⟨52, _⟩ => ⟨S1024x4096, .bf16⟩
  | .hbm, ⟨53, _⟩ => ⟨S32x4096, .f32⟩
  | .hbm, ⟨54, _⟩ => ⟨S32x4096, .f32⟩
  | _, _ => ⟨S2x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.CodeSums.lean ====
module

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! # Sums of squares of 8-bit codes

A kernel adds the squares of a row of codes 128 lanes at a time in floating point, turns each lane's
sum into a 32-bit integer and adds the lanes as integers; the reference squares and adds 32-bit
integers. On the extended reals both are the same integer: a lane's sum is an integer far below
`2 ^ 31`, so the conversion is exact. -/

namespace Cert.Codes

/-- The sum of the squares of the codes at positions `0 * 128 + l, …, (n - 1) * 128 + l` of a row. -/
def sqPart (c : ℕ → BitVec 8) (l n : ℕ) : ℤ := ∑ k ∈ Finset.range n, (c (k * 128 + l)).toInt * (c (k * 128 + l)).toInt

/-- A lane's partial sum as an extended real. -/
def sqVal (c : ℕ → BitVec 8) (l n : ℕ) : EReal := ((sqPart c l n : ℝ) : EReal)

/-- The first square. -/
theorem sq_first (c : ℕ → BitVec 8) (l : ℕ) (b : BitVec 8) (h : b = c (0 * 128 + l)) :
    @Eq EReal (@HMul.hMul EReal EReal EReal _ (FloatOps.sitofp (F := Ideal) .f32 b) (FloatOps.sitofp (F := Ideal) .f32 b)) (sqVal c l 1) := by
  subst h
  show ((((c (0 * 128 + l)).toInt : ℝ) : EReal) * (((c (0 * 128 + l)).toInt : ℝ) : EReal)) = ((sqPart c l 1 : ℝ) : EReal)
  rw [← EReal.coe_mul, sqPart, Finset.sum_range_one]
  push_cast
  rfl

/-- One more square. -/
theorem sq_next (c : ℕ → BitVec 8) (l n : ℕ) (a : EReal) (b : BitVec 8) (ha : a = sqVal c l n) (h : b = c (n * 128 + l)) :
    @Eq EReal (@HAdd.hAdd EReal EReal EReal _ a (@HMul.hMul EReal EReal EReal _ (FloatOps.sitofp (F := Ideal) .f32 b) (FloatOps.sitofp (F := Ideal) .f32 b)))
      (sqVal c l (n + 1)) := by
  subst h ha
  show ((sqPart c l n : ℝ) : EReal) + ((((c (n * 128 + l)).toInt : ℝ) : EReal) * (((c (n * 128 + l)).toInt : ℝ) : EReal)) = ((sqPart c l (n + 1) : ℝ) : EReal)
  rw [← EReal.coe_mul, ← EReal.coe_add, sqPart, sqPart, Finset.sum_range_succ]
  push_cast
  rfl

/-- A lane's partial sum is nonnegative. -/
theorem sqPart_nonneg (c : ℕ → BitVec 8) (l n : ℕ) : 0 ≤ sqPart c l n :=
  Finset.sum_nonneg fun k _ => mul_self_nonneg _

/-- A lane's partial sum of `n` squares is at most `n * 16384`. -/
theorem sqPart_le (c : ℕ → BitVec 8) (l n : ℕ) : sqPart c l n ≤ n * 16384 := by
  have h : ∀ k ∈ Finset.range n, (c (k * 128 + l)).toInt * (c (k * 128 + l)).toInt ≤ 16384 := by
    intro k _
    have h1 := BitVec.le_toInt (c (k * 128 + l))
    have h2 := BitVec.toInt_lt (x := c (k * 128 + l))
    norm_num at h1 h2
    nlinarith
  have := Finset.sum_le_card_nsmul _ _ _ h
  rw [Finset.card_range, nsmul_eq_mul] at this
  exact this

/-- The conversion to a 32-bit integer is exact for a lane's sum of at most 100000 squares. -/
theorem fptosi_sqVal (c : ℕ → BitVec 8) (l n : ℕ) (hn : n ≤ 100000) :
    Ideal.fptosi 32 (sqVal c l n) = BitVec.ofInt 32 (sqPart c l n) := by
  have h0 := sqPart_nonneg c l n
  have h1 := sqPart_le c l n
  have hn' : (n : ℤ) ≤ 100000 := by exact_mod_cast hn
  have hr : (0 : ℝ) ≤ (sqPart c l n : ℝ) := by exact_mod_cast h0
  rw [Ideal.fptosi, sqVal, Ideal.toIntClamped_coe, if_pos hr, Int.floor_intCast, min_eq_right, max_eq_right]
  · norm_num; omega
  · norm_num; omega

/-- A fold of 32-bit additions of integers is the 32-bit image of the integer sum. -/
theorem fold_addi_ofInt {ι : Type} (s : Finset ι) (g : ι → ℤ) (z : BitVec 32) (hz : z = 0#32) :
    s.fold IntOp.addi z (fun i => BitVec.ofInt 32 (g i)) = BitVec.ofInt 32 (∑ i ∈ s, g i) := by
  classical
  subst hz
  induction s using Finset.induction_on with
  | empty => simp
  | insert a s ha ih =>
    rw [Finset.fold_insert ha, Finset.sum_insert ha, ih, BitVec.ofInt_add]
    rfl

/-- The square of a code widened to 32 bits is the 32-bit image of the integer square. -/
theorem muli_signExtend (b : BitVec 8) : IntOp.muli (b.signExtend 32) (b.signExtend 32) = BitVec.ofInt 32 (b.toInt * b.toInt) := by
  rw [BitVec.ofInt_mul]
  rfl

/-- The lanes' sums, added as 32-bit integers, are the row's sum of squares in 32-bit integers. -/
theorem total {N : ℕ} (n : ℕ) (hn : n ≤ 100000) (hN : N = n * 128) (c : ℕ → BitVec 8) (z z' : BitVec 32) (hz : z = 0#32) (hz' : z' = 0#32) :
    Finset.univ.fold IntOp.addi z (fun l : Fin 128 => Ideal.fptosi 32 (sqVal c l.val n))
      = Finset.univ.fold IntOp.addi z' (fun i : Fin N => IntOp.muli ((c i.val).signExtend 32) ((c i.val).signExtend 32)) := by
  simp only [muli_signExtend, fptosi_sqVal c _ n hn]
  rw [fold_addi_ofInt _ _ z hz, fold_addi_ofInt _ _ z' hz']
  congr 1
  simp only [sqPart, Finset.sum_range]
  rw [Finset.sum_comm]
  exact Fin.sum_mul_add_congr (f := fun i : Fin N => (c i.val).toInt * (c i.val).toInt) (fun s k hl => rfl) hN

end Cert.Codes

end
-- ==== Proof.DownPure.lean ====
module

public import proofs.«01_k».proof.Proof.CodeSums
public import proofs.«01_k».proof.Proof.Gen.DownIdeal.Skeleton
public import proofs.«01_k».proof.Proof.Gen.DownRefIdeal.Read
public import Idealize.ShloMosaic.Lib.Pointwise

@[expose] public section

set_option maxRecDepth 16384

noncomputable section

open Idealize.ShloMosaic Idealize.ShloMosaic.TcCoe Idealize.SL.Sem
open scoped BigOperators

/-! # The down projection and its gradients, read at an index

One point of the grid handles the 256 output columns that start at column `T * 256`. Every value it
computes is the reference's value at the same row and at column `T * 256 + q`. The lemmas are stated
over the blocks and the whole arrays, with one hypothesis per block that says which part of its array
it holds. The squared norm of a row of codes is summed slice by slice in the kernel and at once in
the reference: both are the same integer. -/

namespace Cert.DownIdeal.Pure

open Cert.DownIdeal Cert.DownIdeal.Gen Cert.DownRefIdeal.Read Cert.Codes

/-- Output column `q` of tile `T`. -/
def col (T : Fin 16) (q : Fin 256) : Fin 4096 := ⟨T.val * 256 + q.val, by omega⟩

/-- A block of 256 columns, with `n` rows, is tile `T` of an array of 4096 columns. -/
def ColTile {α : Type} {n : ℕ} (T : Fin 16) (b : (⟨2, ![n, 256]⟩ : Shape).Idx → α) (x : (⟨2, ![n, 4096]⟩ : Shape).Idx → α) : Prop :=
  ∀ (r : Fin n) (q : Fin 256), b (ix2 r q) = x (ix2 r (col T q))

/-- A block of 256 rows, with `n` columns, is tile `T` of an array of 4096 rows. -/
def RowTile {α : Type} {n : ℕ} (T : Fin 16) (b : (⟨2, ![256, n]⟩ : Shape).Idx → α) (x : (⟨2, ![4096, n]⟩ : Shape).Idx → α) : Prop :=
  ∀ (q : Fin 256) (r : Fin n), b (ix2 q r) = x (ix2 (col T q) r)

/-- A row block of 256 entries is tile `T` of a vector of 4096 entries. -/
def VecTile {α : Type} (T : Fin 16) (b : (⟨2, ![1, 256]⟩ : Shape).Idx → α) (x : (⟨1, ![4096]⟩ : Shape).Idx → α) : Prop :=
  ∀ q : Fin 256, b (ix2 0 q) = x (ix1 (col T q))

/-- Row `q` of a block of codes, as a sequence. -/
def codes (b : Vec Ideal S256x11008 .i8) (q : Fin 256) (i : ℕ) : BitVec 8 := if h : i < 11008 then b (ix2 q ⟨i, h⟩) else 0#8

theorem codes_of (b : Vec Ideal S256x11008 .i8) (q : Fin 256) (i : Fin 11008) (k l : ℕ) (h : i.val = k * 128 + l) : b (ix2 q i) = codes b q (k * 128 + l) := by
  unfold codes
  rw [dif_pos (by omega)]
  exact congrArg (fun i => b (ix2 q i)) (Fin.ext h)

/-- A slice of 128 columns of the block of codes: slice number `k`. -/
def Slice (b : Vec Ideal S256x11008 .i8) (k : ℕ) (s : Vec Ideal S256x128 .i8) : Prop :=
  ∀ (q : Fin 256) (l : Fin 128), s (ix2 q l) = codes b q (k * 128 + l.val)

/-- The lanes' sums of squares over the first `n` slices. -/
def Sums (b : Vec Ideal S256x11008 .i8) (n : ℕ) (v : FVec Ideal S256x128 .f32) : Prop :=
  ∀ (q : Fin 256) (l : Fin 128), v (ix2 q l) = sqVal (codes b q) l.val n

/-- The first five slices. -/
theorem sums_first (b : Vec Ideal S256x11008 .i8) (s0 s1 s2 s3 s4 : Vec Ideal S256x128 .i8) (h0 : Slice b 0 s0) (h1 : Slice b 1 s1) (h2 : Slice b 2 s2) (h3 : Slice b 3 s3) (h4 : Slice b 4 s4) :
    Sums b 5 (k0_pay8 (F := Ideal) s0 s1 s2 s3 s4) := by
  intro q l
  pointwise [k0_pay8]
  exact sq_next _ _ 4 _ _ (sq_next _ _ 3 _ _ (sq_next _ _ 2 _ _ (sq_next _ _ 1 _ _ (sq_first _ _ _ (h0 q l)) (h1 q l)) (h2 q l)) (h3 q l)) (h4 q l)

/-- Ten more slices. -/
theorem sums_ten (b : Vec Ideal S256x11008 .i8) (n : ℕ) (v : FVec Ideal S256x128 .f32) (s0 s1 s2 s3 s4 s5 s6 s7 s8 s9 : Vec Ideal S256x128 .i8) (hv : Sums b n v)
    (h0 : Slice b (n + 0) s0) (h1 : Slice b (n + 1) s1) (h2 : Slice b (n + 2) s2) (h3 : Slice b (n + 3) s3) (h4 : Slice b (n + 4) s4) (h5 : Slice b (n + 5) s5) (h6 : Slice b (n + 6) s6) (h7 : Slice b (n + 7) s7) (h8 : Slice b (n + 8) s8) (h9 : Slice b (n + 9) s9) :
    Sums b (n + 10) (k0_pay9 (F := Ideal) v s0 s1 s2 s3 s4 s5 s6 s7 s8 s9) := by
  intro q l
  pointwise [k0_pay9]
  exact sq_next _ _ (n + 9) _ _ (sq_next _ _ (n + 8) _ _ (sq_next _ _ (n + 7) _ _ (sq_next _ _ (n + 6) _ _ (sq_next _ _ (n + 5) _ _ (sq_next _ _ (n + 4) _ _ (sq_next _ _ (n + 3) _ _ (sq_next _ _ (n + 2) _ _ (sq_next _ _ (n + 1) _ _ (sq_next _ _ (n + 0) _ _ (hv q l) (h0 q l)) (h1 q l)) (h2 q l)) (h3 q l)) (h4 q l)) (h5 q l)) (h6 q l)) (h7 q l)) (h8 q l)) (h9 q l)

theorem pay10 : @k0_pay10 Ideal _ = @k0_pay9 Ideal _ := rfl
theorem pay11 : @k0_pay11 Ideal _ = @k0_pay9 Ideal _ := rfl
theorem pay12 : @k0_pay12 Ideal _ = @k0_pay9 Ideal _ := rfl
theorem pay13 : @k0_pay13 Ideal _ = @k0_pay9 Ideal _ := rfl
theorem pay14 : @k0_pay14 Ideal _ = @k0_pay9 Ideal _ := rfl
theorem pay15 : @k0_pay15 Ideal _ = @k0_pay9 Ideal _ := rfl
theorem pay16 : @k0_pay16 Ideal _ = @k0_pay9 Ideal _ := rfl

/-- All slices but the last. -/
theorem sums_all (b : Vec Ideal S256x11008 .i8) (s0 s1 s2 s3 s4 s5 s6 s7 s8 s9 s10 s11 s12 s13 s14 s15 s16 s17 s18 s19 s20 s21 s22 s23 s24 s25 s26 s27 s28 s29 s30 s31 s32 s33 s34 s35 s36 s37 s38 s39 s40 s41 s42 s43 s44 s45 s46 s47 s48 s49 s50 s51 s52 s53 s54 s55 s56 s57 s58 s59 s60 s61 s62 s63 s64 s65 s66 s67 s68 s69 s70 s71 s72 s73 s74 s75 s76 s77 s78 s79 s80 s81 s82 s83 s84 : Vec Ideal S256x128 .i8)
    (h0 : Slice b 0 s0) (h1 : Slice b 1 s1) (h2 : Slice b 2 s2) (h3 : Slice b 3 s3) (h4 : Slice b 4 s4) (h5 : Slice b 5 s5) (h6 : Slice b 6 s6) (h7 : Slice b 7 s7) (h8 : Slice b 8 s8) (h9 : Slice b 9 s9) (h10 : Slice b 10 s10) (h11 : Slice b 11 s11) (h12 : Slice b 12 s12) (h13 : Slice b 13 s13) (h14 : Slice b 14 s14) (h15 : Slice b 15 s15) (h16 : Slice b 16 s16) (h17 : Slice b 17 s17) (h18 : Slice b 18 s18) (h19 : Slice b 19 s19) (h20 : Slice b 20 s20) (h21 : Slice b 21 s21) (h22 : Slice b 22 s22) (h23 : Slice b 23 s23) (h24 : Slice b 24 s24) (h25 : Slice b 25 s25) (h26 : Slice b 26 s26) (h27 : Slice b 27 s27) (h28 : Slice b 28 s28) (h29 : Slice b 29 s29) (h30 : Slice b 30 s30) (h31 : Slice b 31 s31) (h32 : Slice b 32 s32) (h33 : Slice b 33 s33) (h34 : Slice b 34 s34) (h35 : Slice b 35 s35) (h36 : Slice b 36 s36) (h37 : Slice b 37 s37) (h38 : Slice b 38 s38) (h39 : Slice b 39 s39) (h40 : Slice b 40 s40) (h41 : Slice b 41 s41) (h42 : Slice b 42 s42) (h43 : Slice b 43 s43) (h44 : Slice b 44 s44) (h45 : Slice b 45 s45) (h46 : Slice b 46 s46) (h47 : Slice b 47 s47) (h48 : Slice b 48 s48) (h49 : Slice b 49 s49) (h50 : Slice b 50 s50) (h51 : Slice b 51 s51) (h52 : Slice b 52 s52) (h53 : Slice b 53 s53) (h54 : Slice b 54 s54) (h55 : Slice b 55 s55) (h56 : Slice b 56 s56) (h57 : Slice b 57 s57) (h58 : Slice b 58 s58) (h59 : Slice b 59 s59) (h60 : Slice b 60 s60) (h61 : Slice b 61 s61) (h62 : Slice b 62 s62) (h63 : Slice b 63 s63) (h64 : Slice b 64 s64) (h65 : Slice b 65 s65) (h66 : Slice b 66 s66) (h67 : Slice b 67 s67) (h68 : Slice b 68 s68) (h69 : Slice b 69 s69) (h70 : Slice b 70 s70) (h71 : Slice b 71 s71) (h72 : Slice b 72 s72) (h73 : Slice b 73 s73) (h74 : Slice b 74 s74) (h75 : Slice b 75 s75) (h76 : Slice b 76 s76) (h77 : Slice b 77 s77) (h78 : Slice b 78 s78) (h79 : Slice b 79 s79) (h80 : Slice b 80 s80) (h81 : Slice b 81 s81) (h82 : Slice b 82 s82) (h83 : Slice b 83 s83) (h84 : Slice b 84 s84) :
    Sums b 85 (k0_pay16 (F := Ideal) (k0_pay15 (F := Ideal) (k0_pay14 (F := Ideal) (k0_pay13 (F := Ideal) (k0_pay12 (F := Ideal) (k0_pay11 (F := Ideal) (k0_pay10 (F := Ideal) (k0_pay9 (F := Ideal) (k0_pay8 (F := Ideal) s0 s1 s2 s3 s4) s5 s6 s7 s8 s9 s10 s11 s12 s13 s14) s15 s16 s17 s18 s19 s20 s21 s22 s23 s24) s25 s26 s27 s28 s29 s30 s31 s32 s33 s34) s35 s36 s37 s38 s39 s40 s41 s42 s43 s44) s45 s46 s47 s48 s49 s50 s51 s52 s53 s54) s55 s56 s57 s58 s59 s60 s61 s62 s63 s64) s65 s66 s67 s68 s69 s70 s71 s72 s73 s74) s75 s76 s77 s78 s79 s80 s81 s82 s83 s84) :=
  (sums_ten b 75 _ s75 s76 s77 s78 s79 s80 s81 s82 s83 s84 (sums_ten b 65 _ s65 s66 s67 s68 s69 s70 s71 s72 s73 s74 (sums_ten b 55 _ s55 s56 s57 s58 s59 s60 s61 s62 s63 s64 (sums_ten b 45 _ s45 s46 s47 s48 s49 s50 s51 s52 s53 s54 (sums_ten b 35 _ s35 s36 s37 s38 s39 s40 s41 s42 s43 s44 (sums_ten b 25 _ s25 s26 s27 s28 s29 s30 s31 s32 s33 s34 (sums_ten b 15 _ s15 s16 s17 s18 s19 s20 s21 s22 s23 s24 (sums_ten b 5 _ s5 s6 s7 s8 s9 s10 s11 s12 s13 s14 (sums_first b s0 s1 s2 s3 s4 h0 h1 h2 h3 h4) h5 h6 h7 h8 h9 h10 h11 h12 h13 h14) h15 h16 h17 h18 h19 h20 h21 h22 h23 h24) h25 h26 h27 h28 h29 h30 h31 h32 h33 h34) h35 h36 h37 h38 h39 h40 h41 h42 h43 h44) h45 h46 h47 h48 h49 h50 h51 h52 h53 h54) h55 h56 h57 h58 h59 h60 h61 h62 h63 h64) h65 h66 h67 h68 h69 h70 h71 h72 h73 h74) h75 h76 h77 h78 h79 h80 h81 h82 h83 h84)

variable (x0 x1 : FVec Ideal Cert.DownRefIdeal.S2x512x4096 .bf16)
variable (x2 : FVec Ideal Cert.DownRefIdeal.S1024x11008 .bf16)
variable (x3 : FVec Ideal Cert.DownRefIdeal.S1024x32 .bf16)
variable (x4 : Vec Ideal Cert.DownRefIdeal.S4096x11008 .i8)
variable (x5 : FVec Ideal Cert.DownRefIdeal.S4096 .f32)
variable (x6 : FVec Ideal Cert.DownRefIdeal.S32x11008 .bf16)
variable (x7 : FVec Ideal Cert.DownRefIdeal.S4096x32 .bf16)
variable (x8 : FVec Ideal Cert.DownRefIdeal.S4096 .f32)
variable (T : Fin 16)

/-- An 8-bit code has the same real value whether it is read directly or widened to 32 bits first. -/
theorem code_val (φ φ' : FTy) (b : BitVec 8) : @Eq EReal (FloatOps.sitofp (F := Ideal) φ b) (FloatOps.sitofp (F := Ideal) φ' (b.signExtend 32)) := by
  show ((b.toInt : ℝ) : EReal) = (((b.signExtend 32).toInt : ℝ) : EReal)
  rw [BitVec.toInt_signExtend_of_le (by decide)]

/-- The product of the activations and the codes. -/
theorem raw (b3 : Vec Ideal S256x11008 .i8) (h3 : RowTile T b3 x4) (b0 : FVec Ideal S1024x11008 .bf16) (h0 : b0 = x2) :
    ColTile T (k0_pay5 (F := Ideal) b3 b0) (val_main_v32 (F := Ideal) x2 x4) := by
  intro r q
  subst h0
  pointwise [k0_pay5, k0_pay4, val_main_v32, val_main_v6, val_main_v5, val_main_v4]
  refine Finset.sum_congr rfl fun k _ => ?_
  rw [h3 q k]; exact congrArg _ (code_val _ _ _)

/-- The adapter's first factor times the codes, transposed. -/
theorem proj (b3 : Vec Ideal S256x11008 .i8) (h3 : RowTile T b3 x4) (b2 : FVec Ideal S32x11008 .bf16) (h2 : b2 = x6) (j : Fin 32) (q : Fin 256) :
    k0_pay6 (F := Ideal) b3 b2 (ix2 j q) = val_main_v14 (F := Ideal) x4 x6 (ix2 (col T q) j) := by
  subst h2
  pointwise [k0_pay6, k0_pay4, val_main_v14, val_main_v6, val_main_v5, val_main_v4]
  refine Finset.sum_congr rfl fun k _ => ?_
  rw [h3 q k]; exact (mul_comm _ _).trans (congrArg (· * _) (code_val _ _ _))

/-- The products of the first factor's rows. -/
theorem gram (b b' : FVec Ideal S32x11008 .bf16) (h : b = x6) (h' : b' = x6) (i j : Fin 32) :
    k0_pay2 (F := Ideal) b b' (ix2 i j) = val_main_v17 (F := Ideal) x6 (ix2 i j) := by
  subst h h'
  pointwise [k0_pay2, val_main_v17]

/-- The products of the rows are symmetric. -/
theorem gram_symm (i j : Fin 32) : val_main_v17 (F := Ideal) x6 (ix2 i j) = val_main_v17 (F := Ideal) x6 (ix2 j i) := by
  pointwise [val_main_v17]
  exact Finset.sum_congr rfl fun k _ => mul_comm _ _

/-- The scale, as the tile reads it. -/
theorem scale (b4 : FVec Ideal S1x256 .f32) (h4 : VecTile T b4 x5) : VecTile T (k0_pay7 (F := Ideal) b4) x5 := by
  intro q
  pointwise [k0_pay7]
  exact h4 q

/-- The integer sum of squares of one row of codes. -/
theorem sumsq (b3 : Vec Ideal S256x11008 .i8) (h3 : RowTile T b3 x4) (q : Fin 256) (z : BitVec 32) (hz : z = 0#32) :
    Finset.univ.fold IntOp.addi z (fun l : Fin 128 => Ideal.fptosi 32 (sqVal (codes b3 q) l.val 86)) = val_main_v10 (F := Ideal) x4 (ix1 (col T q)) := by
  pointwise [val_main_v10, val_main_v9, val_main_v8, val_main_c]
  refine (total 86 (by decide) (N := 11008) rfl _ _ 0#32 hz rfl).trans ?_
  refine congrArg₂ (fun z f => Finset.fold IntOp.addi z f Finset.univ) rfl (funext fun k => ?_)
  rw [show codes b3 q k.val = x4 (ix2 (col T q) k) from (dif_pos k.isLt).trans (h3 q k)]

/-- The norm of each row of the adapted weight. -/
theorem norm (b3 : Vec Ideal S256x11008 .i8) (h3 : RowTile T b3 x4) (v8 : FVec Ideal S32x256 .f32) (h8 : ∀ j q, v8 (ix2 j q) = val_main_v14 (F := Ideal) x4 x6 (ix2 (col T q) j))
    (b5 : FVec Ideal S256x32 .bf16) (h5 : RowTile T b5 x7) (v11 : FVec Ideal S1x256 .f32) (h11 : VecTile T v11 x5)
    (v350 : FVec Ideal S256x128 .f32) (hv : Sums b3 85 v350) (s85 : Vec Ideal S256x128 .i8) (hs : Slice b3 85 s85)
    (g : FVec Ideal S32x32 .f32) (hg : ∀ i j, g (ix2 i j) = val_main_v17 (F := Ideal) x6 (ix2 i j)) :
    VecTile T (k0_pay17 (F := Ideal) v8 b5 v11 v350 s85 g) (val_main_v30 (F := Ideal) x4 x5 x6 x7) := by
  intro q
  have hq := sumsq x4 T b3 h3 q
  pointwise [k0_pay17, val_main_v30, val_main_v29, val_main_v28, val_main_v27, val_main_cst_2, val_main_v26, val_main_cst_1, val_main_v25, val_main_v24, val_main_v23, val_main_v22, val_main_cst_0, val_main_v21, val_main_cst, val_main_v20, val_main_v19, val_main_v18, val_main_v16, val_main_v15, val_main_v13, val_main_v12, val_main_v11, val_main_v7]
  refine congrArg Ideal.sqrt (congrArg₂ (· + ·) (congrArg₂ (· + ·) (congrArg₂ (· * ·) ?_ (congrArg (FloatOps.sitofp (F := Ideal) .f32) ?_)) (congrArg (Ideal.ofBits FTy.f32 1069547520#32 * ·) (Finset.sum_congr rfl fun k _ => ?_))) (congrArg (Ideal.ofBits FTy.f32 1058013184#32 * ·) (Finset.sum_congr rfl fun k _ => ?_)))
  · rw [h11 q]
  · refine Eq.trans ?_ (hq 0#32 rfl)
    refine congrArg (fun f => Finset.fold IntOp.addi 0#32 f Finset.univ) (funext fun l => ?_)
    exact congrArg (Ideal.fptosi 32) (sq_next _ _ 85 _ _ (hv q l) (hs q l))
  · rw [h5 q k, h11 q, h8 k q]
  · rw [h5 q k]
    refine congrArg (· * _) (Finset.sum_congr rfl fun i _ => ?_)
    rw [hg k i, h5 q i, gram_symm x6 k i]
    exact mul_comm _ _

/-- Magnitude over norm. -/
theorem coef (b8 : FVec Ideal S1x256 .f32) (hb : VecTile T b8 x8) (v8 : FVec Ideal S32x256 .f32) (b5 : FVec Ideal S256x32 .bf16) (v11 : FVec Ideal S1x256 .f32) (v350 : FVec Ideal S256x128 .f32) (s85 : Vec Ideal S256x128 .i8) (g : FVec Ideal S32x32 .f32)
    (hn : VecTile T (k0_pay17 (F := Ideal) v8 b5 v11 v350 s85 g) (val_main_v30 (F := Ideal) x4 x5 x6 x7)) :
    VecTile T (k0_pay18 (F := Ideal) v8 b5 v11 v350 s85 g b8) (val_main_v31 (F := Ideal) x4 x5 x6 x7 x8) := by
  intro q
  have h := hn q
  pointwise [k0_pay18, val_main_v31]
  rw [h, hb q]

/-- The adapted product before the magnitude. -/
theorem adapted (v6 : FVec Ideal S1024x256 .f32) (h6 : ColTile T v6 (val_main_v32 (F := Ideal) x2 x4)) (b5 : FVec Ideal S256x32 .bf16) (h5 : RowTile T b5 x7) (v11 : FVec Ideal S1x256 .f32) (h11 : VecTile T v11 x5) (b1 : FVec Ideal S1024x32 .bf16) (h1 : b1 = x3) :
    ColTile T (k0_pay19 (F := Ideal) v6 b5 v11 b1) (val_main_v39 (F := Ideal) x2 x3 x4 x5 x7) := by
  intro r q
  subst h1
  pointwise [k0_pay19, val_main_v39, val_main_v38, val_main_v37, val_main_cst_3, val_main_v36, val_main_v35, val_main_v34, val_main_v33]
  simp only [h6 r q, h11 q, h5 q]

/-- The output: residual plus scaled product. -/
theorem out (e : FVec Ideal S1x256 .f32) (he : VecTile T e (val_main_v31 (F := Ideal) x4 x5 x6 x7 x8)) (u : FVec Ideal S1024x256 .f32) (hu : ColTile T u (val_main_v39 (F := Ideal) x2 x3 x4 x5 x7)) (b7 : FVec Ideal S1024x256 .bf16) (h7 : ColTile T b7 (val_main_v0 (F := Ideal) x0)) :
    ColTile T (k0_pay20 (F := Ideal) e u b7) (val_main_v44 (F := Ideal) x0 x2 x3 x4 x5 x6 x7 x8) := by
  intro r q
  pointwise [k0_pay20, val_main_v44, val_main_v43, val_main_v42, val_main_v41, val_main_v40, val_main_v1]
  rw [he q, hu r q, h7 r q]

/-- The gradient of the magnitude. -/
theorem dmag (n : FVec Ideal S1x256 .f32) (hn : VecTile T n (val_main_v30 (F := Ideal) x4 x5 x6 x7)) (u : FVec Ideal S1024x256 .f32) (hu : ColTile T u (val_main_v39 (F := Ideal) x2 x3 x4 x5 x7)) (d : FVec Ideal S1024x256 .bf16) (hd : ColTile T d (val_main_v2 (F := Ideal) x1)) :
    VecTile T (k0_pay22 (F := Ideal) n u d) (val_main_v47 (F := Ideal) x1 x2 x3 x4 x5 x6 x7) := by
  intro q
  pointwise [k0_pay22, k0_pay21, val_main_v47, val_main_v46, val_main_cst_4, val_main_v45, val_main_v3]
  rw [hn q]
  refine congrArg (fun s => Ideal.div s _) (Finset.sum_congr rfl fun r _ => ?_)
  rw [hu r q, hd r q]

/-- The output gradient times magnitude over norm. -/
theorem gc (e : FVec Ideal S1x256 .f32) (he : VecTile T e (val_main_v31 (F := Ideal) x4 x5 x6 x7 x8)) (d : FVec Ideal S1024x256 .bf16) (hd : ColTile T d (val_main_v2 (F := Ideal) x1)) :
    ColTile T (k0_pay23 (F := Ideal) e d) (val_main_v50 (F := Ideal) x1 x4 x5 x6 x7 x8) := by
  intro r q
  pointwise [k0_pay23, k0_pay21, val_main_v50, val_main_v49, val_main_v48, val_main_v3]
  rw [he q, hd r q]

/-- The same, times the scale. -/
theorem gw (e : FVec Ideal S1x256 .f32) (he : VecTile T e (val_main_v31 (F := Ideal) x4 x5 x6 x7 x8)) (d : FVec Ideal S1024x256 .bf16) (hd : ColTile T d (val_main_v2 (F := Ideal) x1)) (v11 : FVec Ideal S1x256 .f32) (h11 : VecTile T v11 x5) :
    ColTile T (k0_pay25 (F := Ideal) v11 e d) (val_main_v55 (F := Ideal) x1 x4 x5 x6 x7 x8) := by
  intro r q
  have h := gc x1 x4 x5 x6 x7 x8 T e he d hd r q
  pointwise [k0_pay25, val_main_v55, val_main_v54, val_main_v53, val_main_v52]
  rw [h, h11 q]

/-- The gradient of the adapter's second factor. -/
theorem db (e : FVec Ideal S1x256 .f32) (he : VecTile T e (val_main_v31 (F := Ideal) x4 x5 x6 x7 x8)) (d : FVec Ideal S1024x256 .bf16) (hd : ColTile T d (val_main_v2 (F := Ideal) x1)) (b1 : FVec Ideal S1024x32 .bf16) (h1 : b1 = x3) :
    RowTile T (k0_pay26 (F := Ideal) e d b1) (val_main_v58 (F := Ideal) x1 x3 x4 x5 x6 x7 x8) := by
  intro q j
  subst h1
  have h := fun r => gc x1 x4 x5 x6 x7 x8 T e he d hd r q
  pointwise [k0_pay26, k0_pay24, val_main_v58, val_main_v57, val_main_cst_5, val_main_v56, val_main_v51]
  refine congrArg (Ideal.ofBits FTy.f32 1061158912#32 * ·) (Finset.sum_congr rfl fun r _ => ?_)
  rw [h r]
  exact mul_comm _ _

/-- The tile's part of the gradient that goes back through the adapter. -/
def part (T : Fin 16) (i : S1024x32.Idx) : EReal :=
  ∑ q : Fin 256, (val_main_v50 (F := Ideal) x1 x4 x5 x6 x7 x8 (ix2 (i 0) (col T q)) * x7 (ix2 (col T q) (i 1)) : EReal)

/-- One step of the accumulator adds the tile's part. -/
theorem step (e : FVec Ideal S1x256 .f32) (he : VecTile T e (val_main_v31 (F := Ideal) x4 x5 x6 x7 x8)) (d : FVec Ideal S1024x256 .bf16) (hd : ColTile T d (val_main_v2 (F := Ideal) x1)) (b5 : FVec Ideal S256x32 .bf16) (h5 : RowTile T b5 x7) (a : FVec Ideal S1024x32 .f32) (r : Fin 1024) (j : Fin 32) :
    k0_pay27 (F := Ideal) b5 e d a (ix2 r j) = a (ix2 r j) + part x1 x4 x5 x6 x7 x8 T (ix2 r j) := by
  have h := fun q => gc x1 x4 x5 x6 x7 x8 T e he d hd r q
  unfold part
  pointwise [k0_pay27, k0_pay24]
  refine congrArg₂ (· + ·) rfl (Finset.sum_congr rfl fun q _ => ?_)
  rw [h q, h5 q j]

/-- The accumulated gradient, scaled: the last result. -/
theorem last (a : FVec Ideal S1024x32 .f32) (r : Fin 1024) (j : Fin 32) (h : a (ix2 r j) = val_main_v59 (F := Ideal) x1 x4 x5 x6 x7 x8 (ix2 r j)) :
    k0_pay1 (F := Ideal) a (ix2 r j) = val_main_v62 (F := Ideal) x1 x4 x5 x6 x7 x8 (ix2 r j) := by
  pointwise [k0_pay1, val_main_v62, val_main_v61, val_main_v60, val_main_cst_6]
  rw [h]

/-- The zero the accumulator starts from. -/
theorem zero (j : S1024x32.Idx) : k0_pay3 (F := Ideal) j = 0 := by
  pointwise! [k0_pay3]

end Cert.DownIdeal.Pure

end
-- ==== Proof.DownFinal.lean ====
module

public import proofs.«01_k».proof.Proof.DownPure
public import proofs.«01_k».proof.Proof.Gen.DownIdeal.Frame
public import proofs.«01_k».proof.Proof.Gen.DownIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The down projection: the arrays after the run

Each output array is the reference's array, as a function of the arguments. -/

namespace Cert.DownIdeal.Final

open Cert.DownIdeal Cert.DownIdeal.Gen Cert.DownRefIdeal.Read

variable (m : (ℓ : Loc nD τ sig) → Buf (Elt Ideal) ℓ)

/-- The block index of every window at every point. -/
theorem idx_val : ∀ t : Fin cfg0.N, win0_0.index t = ![0, 0]
    ∧ win0_1.index t = ![0, 0]
    ∧ win0_2.index t = ![0, 0]
    ∧ win0_3.index t = ![t.val, 0]
    ∧ win0_4.index t = ![0, t.val]
    ∧ win0_5.index t = ![t.val, 0]
    ∧ win0_6.index t = ![0, t.val]
    ∧ win0_7.index t = ![0, t.val]
    ∧ win0_8.index t = ![0, t.val]
    ∧ win0_9.index t = ![0, t.val]
    ∧ win0_10.index t = ![0, t.val]
    ∧ win0_11.index t = ![0, t.val]
    ∧ win0_12.index t = ![0, t.val]
    ∧ win0_13.index t = ![t.val, 0]
    ∧ win0_14.index t = ![0, 0] :=
  (by decide +kernel : ∀ t : Fin grid0.N, _)

/-- The column tile of a point of the grid. -/
def pt (t : Fin cfg0.N) : Fin 16 := ⟨t.val, lt_of_lt_of_eq t.isLt N_0⟩

/-- An index of two coordinates is the pair of them. -/
theorem eq_ix2 {a b : ℕ} (y : (⟨2, ![a, b]⟩ : Shape).Idx) : ∃ (r : Fin a) (k : Fin b), y = ix2 r k :=
  ⟨y 0, y 1, funext fun d => by match d with | ⟨0, _⟩ => rfl | ⟨1, _⟩ => rfl⟩

/-- What the input blocks at a point hold: parts of the arguments. -/
theorem blk0 (c : Dev nD) (t : Fin cfg0.N) : iblk m c 0 t = m ((c : Thread nD τ).loc main_arg2) := by
  funext y
  blk_ext [iblk, V, idx_val t]

theorem blk1 (c : Dev nD) (t : Fin cfg0.N) : iblk m c 1 t = m ((c : Thread nD τ).loc main_arg3) := by
  funext y
  blk_ext [iblk, V, idx_val t]

theorem blk2 (c : Dev nD) (t : Fin cfg0.N) : iblk m c 2 t = m ((c : Thread nD τ).loc main_arg6) := by
  funext y
  blk_ext [iblk, V, idx_val t]

theorem blk3 (c : Dev nD) (t : Fin cfg0.N) : Pure.RowTile (pt t) (iblk m c 3 t) (m ((c : Thread nD τ).loc main_arg4)) := by
  intro r k
  blk_ext [iblk, V, pt, Pure.col, idx_val t]

theorem blk4 (c : Dev nD) (t : Fin cfg0.N) : Pure.VecTile (pt t) (iblk m c 4 t) (m ((c : Thread nD τ).loc main_arg5)) := by
  intro k
  blk_simp [iblk, idx_val t]; entry_read
  pointwise
  blk_ext [pt, Pure.col, idx_val t]

theorem blk5 (c : Dev nD) (t : Fin cfg0.N) : Pure.RowTile (pt t) (iblk m c 5 t) (m ((c : Thread nD τ).loc main_arg7)) := by
  intro r k
  blk_ext [iblk, V, pt, Pure.col, idx_val t]

theorem blk6 (c : Dev nD) (t : Fin cfg0.N) : Pure.VecTile (pt t) (iblk m c 6 t) (m ((c : Thread nD τ).loc main_arg8)) := by
  intro k
  blk_simp [iblk, idx_val t]; entry_read
  pointwise
  blk_ext [pt, Pure.col, idx_val t]

theorem blk7 (c : Dev nD) (t : Fin cfg0.N) : Pure.ColTile (pt t) (iblk m c 7 t) (val_main_v0 (F := Ideal) (m ((c : Thread nD τ).loc main_arg0))) := by
  intro r k
  blk_simp [iblk, idx_val t]; entry_read
  exact congrArg (val_main_v0 (F := Ideal) (m ((c : Thread nD τ).loc main_arg0))) (by blk_ext [pt, Pure.col, idx_val t])

theorem blk8 (c : Dev nD) (t : Fin cfg0.N) : Pure.ColTile (pt t) (iblk m c 8 t) (val_main_v2 (F := Ideal) (m ((c : Thread nD τ).loc main_arg1))) := by
  intro r k
  blk_simp [iblk, idx_val t]; entry_read
  exact congrArg (val_main_v2 (F := Ideal) (m ((c : Thread nD τ).loc main_arg1))) (by blk_ext [pt, Pure.col, idx_val t])

/-- The sums of the codes' squares over the first 85 slices of a block, lane by lane. -/
def sq (b : Vec Ideal S256x11008 .i8) : FVec Ideal S256x128 .f32 :=
  k0_pay16 (F := Ideal) (k0_pay15 (F := Ideal) (k0_pay14 (F := Ideal) (k0_pay13 (F := Ideal) (k0_pay12 (F := Ideal) (k0_pay11 (F := Ideal) (k0_pay10 (F := Ideal) (k0_pay9 (F := Ideal) (k0_pay8 (F := Ideal) (View.ld b (Rect.unit ![0, 0] ![256, 128] inb_S256x11008_S256x128_0_0)) (View.ld b (Rect.unit ![0, 128] ![256, 128] inb_S256x11008_S256x128_0_128)) (View.ld b (Rect.unit ![0, 256] ![256, 128] inb_S256x11008_S256x128_0_256)) (View.ld b (Rect.unit ![0, 384] ![256, 128] inb_S256x11008_S256x128_0_384)) (View.ld b (Rect.unit ![0, 512] ![256, 128] inb_S256x11008_S256x128_0_512))) (View.ld b (Rect.unit ![0, 640] ![256, 128] inb_S256x11008_S256x128_0_640))
    (View.ld b (Rect.unit ![0, 768] ![256, 128] inb_S256x11008_S256x128_0_768))
    (View.ld b (Rect.unit ![0, 896] ![256, 128] inb_S256x11008_S256x128_0_896))
    (View.ld b (Rect.unit ![0, 1024] ![256, 128] inb_S256x11008_S256x128_0_1024))
    (View.ld b (Rect.unit ![0, 1152] ![256, 128] inb_S256x11008_S256x128_0_1152))
    (View.ld b (Rect.unit ![0, 1280] ![256, 128] inb_S256x11008_S256x128_0_1280))
    (View.ld b (Rect.unit ![0, 1408] ![256, 128] inb_S256x11008_S256x128_0_1408))
    (View.ld b (Rect.unit ![0, 1536] ![256, 128] inb_S256x11008_S256x128_0_1536))
    (View.ld b (Rect.unit ![0, 1664] ![256, 128] inb_S256x11008_S256x128_0_1664))
    (View.ld b (Rect.unit ![0, 1792] ![256, 128] inb_S256x11008_S256x128_0_1792))) (View.ld b (Rect.unit ![0, 1920] ![256, 128] inb_S256x11008_S256x128_0_1920))
    (View.ld b (Rect.unit ![0, 2048] ![256, 128] inb_S256x11008_S256x128_0_2048))
    (View.ld b (Rect.unit ![0, 2176] ![256, 128] inb_S256x11008_S256x128_0_2176))
    (View.ld b (Rect.unit ![0, 2304] ![256, 128] inb_S256x11008_S256x128_0_2304))
    (View.ld b (Rect.unit ![0, 2432] ![256, 128] inb_S256x11008_S256x128_0_2432))
    (View.ld b (Rect.unit ![0, 2560] ![256, 128] inb_S256x11008_S256x128_0_2560))
    (View.ld b (Rect.unit ![0, 2688] ![256, 128] inb_S256x11008_S256x128_0_2688))
    (View.ld b (Rect.unit ![0, 2816] ![256, 128] inb_S256x11008_S256x128_0_2816))
    (View.ld b (Rect.unit ![0, 2944] ![256, 128] inb_S256x11008_S256x128_0_2944))
    (View.ld b (Rect.unit ![0, 3072] ![256, 128] inb_S256x11008_S256x128_0_3072))) (View.ld b (Rect.unit ![0, 3200] ![256, 128] inb_S256x11008_S256x128_0_3200))
    (View.ld b (Rect.unit ![0, 3328] ![256, 128] inb_S256x11008_S256x128_0_3328))
    (View.ld b (Rect.unit ![0, 3456] ![256, 128] inb_S256x11008_S256x128_0_3456))
    (View.ld b (Rect.unit ![0, 3584] ![256, 128] inb_S256x11008_S256x128_0_3584))
    (View.ld b (Rect.unit ![0, 3712] ![256, 128] inb_S256x11008_S256x128_0_3712))
    (View.ld b (Rect.unit ![0, 3840] ![256, 128] inb_S256x11008_S256x128_0_3840))
    (View.ld b (Rect.unit ![0, 3968] ![256, 128] inb_S256x11008_S256x128_0_3968))
    (View.ld b (Rect.unit ![0, 4096] ![256, 128] inb_S256x11008_S256x128_0_4096))
    (View.ld b (Rect.unit ![0, 4224] ![256, 128] inb_S256x11008_S256x128_0_4224))
    (View.ld b (Rect.unit ![0, 4352] ![256, 128] inb_S256x11008_S256x128_0_4352))) (View.ld b (Rect.unit ![0, 4480] ![256, 128] inb_S256x11008_S256x128_0_4480))
    (View.ld b (Rect.unit ![0, 4608] ![256, 128] inb_S256x11008_S256x128_0_4608))
    (View.ld b (Rect.unit ![0, 4736] ![256, 128] inb_S256x11008_S256x128_0_4736))
    (View.ld b (Rect.unit ![0, 4864] ![256, 128] inb_S256x11008_S256x128_0_4864))
    (View.ld b (Rect.unit ![0, 4992] ![256, 128] inb_S256x11008_S256x128_0_4992))
    (View.ld b (Rect.unit ![0, 5120] ![256, 128] inb_S256x11008_S256x128_0_5120))
    (View.ld b (Rect.unit ![0, 5248] ![256, 128] inb_S256x11008_S256x128_0_5248))
    (View.ld b (Rect.unit ![0, 5376] ![256, 128] inb_S256x11008_S256x128_0_5376))
    (View.ld b (Rect.unit ![0, 5504] ![256, 128] inb_S256x11008_S256x128_0_5504))
    (View.ld b (Rect.unit ![0, 5632] ![256, 128] inb_S256x11008_S256x128_0_5632))) (View.ld b (Rect.unit ![0, 5760] ![256, 128] inb_S256x11008_S256x128_0_5760))
    (View.ld b (Rect.unit ![0, 5888] ![256, 128] inb_S256x11008_S256x128_0_5888))
    (View.ld b (Rect.unit ![0, 6016] ![256, 128] inb_S256x11008_S256x128_0_6016))
    (View.ld b (Rect.unit ![0, 6144] ![256, 128] inb_S256x11008_S256x128_0_6144))
    (View.ld b (Rect.unit ![0, 6272] ![256, 128] inb_S256x11008_S256x128_0_6272))
    (View.ld b (Rect.unit ![0, 6400] ![256, 128] inb_S256x11008_S256x128_0_6400))
    (View.ld b (Rect.unit ![0, 6528] ![256, 128] inb_S256x11008_S256x128_0_6528))
    (View.ld b (Rect.unit ![0, 6656] ![256, 128] inb_S256x11008_S256x128_0_6656))
    (View.ld b (Rect.unit ![0, 6784] ![256, 128] inb_S256x11008_S256x128_0_6784))
    (View.ld b (Rect.unit ![0, 6912] ![256, 128] inb_S256x11008_S256x128_0_6912))) (View.ld b (Rect.unit ![0, 7040] ![256, 128] inb_S256x11008_S256x128_0_7040))
    (View.ld b (Rect.unit ![0, 7168] ![256, 128] inb_S256x11008_S256x128_0_7168))
    (View.ld b (Rect.unit ![0, 7296] ![256, 128] inb_S256x11008_S256x128_0_7296))
    (View.ld b (Rect.unit ![0, 7424] ![256, 128] inb_S256x11008_S256x128_0_7424))
    (View.ld b (Rect.unit ![0, 7552] ![256, 128] inb_S256x11008_S256x128_0_7552))
    (View.ld b (Rect.unit ![0, 7680] ![256, 128] inb_S256x11008_S256x128_0_7680))
    (View.ld b (Rect.unit ![0, 7808] ![256, 128] inb_S256x11008_S256x128_0_7808))
    (View.ld b (Rect.unit ![0, 7936] ![256, 128] inb_S256x11008_S256x128_0_7936))
    (View.ld b (Rect.unit ![0, 8064] ![256, 128] inb_S256x11008_S256x128_0_8064))
    (View.ld b (Rect.unit ![0, 8192] ![256, 128] inb_S256x11008_S256x128_0_8192))) (View.ld b (Rect.unit ![0, 8320] ![256, 128] inb_S256x11008_S256x128_0_8320))
    (View.ld b (Rect.unit ![0, 8448] ![256, 128] inb_S256x11008_S256x128_0_8448))
    (View.ld b (Rect.unit ![0, 8576] ![256, 128] inb_S256x11008_S256x128_0_8576))
    (View.ld b (Rect.unit ![0, 8704] ![256, 128] inb_S256x11008_S256x128_0_8704))
    (View.ld b (Rect.unit ![0, 8832] ![256, 128] inb_S256x11008_S256x128_0_8832))
    (View.ld b (Rect.unit ![0, 8960] ![256, 128] inb_S256x11008_S256x128_0_8960))
    (View.ld b (Rect.unit ![0, 9088] ![256, 128] inb_S256x11008_S256x128_0_9088))
    (View.ld b (Rect.unit ![0, 9216] ![256, 128] inb_S256x11008_S256x128_0_9216))
    (View.ld b (Rect.unit ![0, 9344] ![256, 128] inb_S256x11008_S256x128_0_9344))
    (View.ld b (Rect.unit ![0, 9472] ![256, 128] inb_S256x11008_S256x128_0_9472))) (View.ld b (Rect.unit ![0, 9600] ![256, 128] inb_S256x11008_S256x128_0_9600))
    (View.ld b (Rect.unit ![0, 9728] ![256, 128] inb_S256x11008_S256x128_0_9728))
    (View.ld b (Rect.unit ![0, 9856] ![256, 128] inb_S256x11008_S256x128_0_9856))
    (View.ld b (Rect.unit ![0, 9984] ![256, 128] inb_S256x11008_S256x128_0_9984))
    (View.ld b (Rect.unit ![0, 10112] ![256, 128] inb_S256x11008_S256x128_0_10112))
    (View.ld b (Rect.unit ![0, 10240] ![256, 128] inb_S256x11008_S256x128_0_10240))
    (View.ld b (Rect.unit ![0, 10368] ![256, 128] inb_S256x11008_S256x128_0_10368))
    (View.ld b (Rect.unit ![0, 10496] ![256, 128] inb_S256x11008_S256x128_0_10496))
    (View.ld b (Rect.unit ![0, 10624] ![256, 128] inb_S256x11008_S256x128_0_10624))
    (View.ld b (Rect.unit ![0, 10752] ![256, 128] inb_S256x11008_S256x128_0_10752))

/-- The last slice of a block of codes. -/
def lastSlice (b : Vec Ideal S256x11008 .i8) : Vec Ideal S256x128 .i8 := View.ld b (Rect.unit ![0, 10880] ![256, 128] inb_S256x11008_S256x128_0_10880)

theorem sq_sums (b : Vec Ideal S256x11008 .i8) : Pure.Sums b 85 (sq b) := by
  refine Pure.sums_all b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (fun q l => by pointwise; exact (Pure.codes_of b q ⟨l.val, by omega⟩ 0 l.val (by simp)).trans (by rw [Nat.zero_mul, Nat.zero_add]))
    (fun q l => by pointwise; exact Pure.codes_of b q ⟨1 * 128 + l.val, by omega⟩ 1 l.val rfl)
    (fun q l => by pointwise; exact Pure.codes_of b q ⟨2 * 128 + l.val, by omega⟩ 2 l.val rfl)
    (fun q l => by pointwise; exact Pure.codes_of b q ⟨3 * 128 + l.val, by omega⟩ 3 l.val rfl)
    (fun q l => by pointwise; exact Pure.codes_of b q ⟨4 * 128 + l.val, by omega⟩ 4 l.val rfl)
    (fun q l => by pointwise; exact Pure.codes_of b q ⟨5 * 128 + l.val, by omega⟩ 5 l.val rfl)
    (fun q l => by pointwise; exact Pure.codes_of b q ⟨6 * 128 + l.val, by omega⟩ 6 l.val rfl)
    (fun q l => by pointwise; exact Pure.codes_of b q ⟨7 * 128 + l.val, by omega⟩ 7 l.val rfl)
    (fun q l => by pointwise; exact Pure.codes_of b q ⟨8 * 128 + l.val, by omega⟩ 8 l.val rfl)
    (fun q l => by pointwise; exact Pure.codes_of b q ⟨9 * 128 + l.val, by omega⟩ 9 l.val rfl)
    (fun q l => by pointwise; exact Pure.codes_of b q ⟨10 * 128 + l.val, by omega⟩ 10 l.val rfl)
    (fun q l => by pointwise; exact Pure.codes_of b q ⟨11 * 128 + l.val, by omega⟩ 11 l.val rfl)
    (fun q l => by pointwise; exact Pure.codes_of b q ⟨12 * 128 + l.val, by omega⟩ 12 l.val rfl)
    (fun q l => by pointwise; exact Pure.codes_of b q ⟨13 * 128 + l.val, by omega⟩ 13 l.val rfl)
    (fun q l => by pointwise; exact Pure.codes_of b q ⟨14 * 128 + l.val, by omega⟩ 14 l.val rfl)
    (fun q l => by pointwise; exact Pure.codes_of b q ⟨15 * 128 + l.val, by omega⟩ 15 l.val rfl)
    (fun q l => by pointwise; exact Pure.codes_of b q ⟨16 * 128 + l.val, by omega⟩ 16 l.val rfl)
    (fun q l => by pointwise; exact Pure.codes_of b q ⟨17 * 128 + l.val, by omega⟩ 17 l.val rfl)
    (fun q l => by pointwise; exact Pure.codes_of b q ⟨18 * 128 + l.val, by omega⟩ 18 l.val rfl)
    (fun q l => by pointwise; exact Pure.codes_of b q ⟨19 * 128 + l.val, by omega⟩ 19 l.val rfl)
    (fun q l => by pointwise; exact Pure.codes_of b q ⟨20 * 128 + l.val, by omega⟩ 20 l.val rfl)
    (fun q l => by pointwise; exact Pure.codes_of b q ⟨21 * 128 + l.val, by omega⟩ 21 l.val rfl)
    (fun q l => by pointwise; exact Pure.codes_of b q ⟨22 * 128 + l.val, by omega⟩ 22 l.val rfl)
    (fun q l => by pointwise; exact Pure.codes_of b q ⟨23 * 128 + l.val, by omega⟩ 23 l.val rfl)
    (fun q l => by pointwise; exact Pure.codes_of b q ⟨24 * 128 + l.val, by omega⟩ 24 l.val rfl)
    (fun q l => by pointwise; exact Pure.codes_of b q ⟨25 * 128 + l.val, by omega⟩ 25 l.val rfl)
    (fun q l => by pointwise; exact Pure.codes_of b q ⟨26 * 128 + l.val, by omega⟩ 26 l.val rfl)
    (fun q l => by pointwise; exact Pure.codes_of b q ⟨27 * 128 + l.val, by omega⟩ 27 l.val rfl)
    (fun q l => by pointwise; exact Pure.codes_of b q ⟨28 * 128 + l.val, by omega⟩ 28 l.val rfl)
    (fun q l => by pointwise; exact Pure.codes_of b q ⟨29 * 128 + l.val, by omega⟩ 29 l.val rfl)
    (fun q l => by pointwise; exact Pure.codes_of b q ⟨30 * 128 + l.val, by omega⟩ 30 l.val rfl)
    (fun q l => by pointwise; exact Pure.codes_of b q ⟨31 * 128 + l.val, by omega⟩ 31 l.val rfl)
    (fun q l => by pointwise; exact Pure.codes_of b q ⟨32 * 128 + l.val, by omega⟩ 32 l.val rfl)
    (fun q l => by pointwise; exact Pure.codes_of b q ⟨33 * 128 + l.val, by omega⟩ 33 l.val rfl)
    (fun q l => by pointwise; exact Pure.codes_of b q ⟨34 * 128 + l.val, by omega⟩ 34 l.val rfl)
    (fun q l => by pointwise; exact Pure.codes_of b q ⟨35 * 128 + l.val, by omega⟩ 35 l.val rfl)
    (fun q l => by pointwise; exact Pure.codes_of b q ⟨36 * 128 + l.val, by omega⟩ 36 l.val rfl)
    (fun q l => by pointwise; exact Pure.codes_of b q ⟨37 * 128 + l.val, by omega⟩ 37 l.val rfl)
    (fun q l => by pointwise; exact Pure.codes_of b q ⟨38 * 128 + l.val, by omega⟩ 38 l.val rfl)
    (fun q l => by pointwise; exact Pure.codes_of b q ⟨39 * 128 + l.val, by omega⟩ 39 l.val rfl)
    (fun q l => by pointwise; exact Pure.codes_of b q ⟨40 * 128 + l.val, by omega⟩ 40 l.val rfl)
    (fun q l => by pointwise; exact Pure.codes_of b q ⟨41 * 128 + l.val, by omega⟩ 41 l.val rfl)
    (fun q l => by pointwise; exact Pure.codes_of b q ⟨42 * 128 + l.val, by omega⟩ 42 l.val rfl)
    (fun q l => by pointwise; exact Pure.codes_of b q ⟨43 * 128 + l.val, by omega⟩ 43 l.val rfl)
    (fun q l => by pointwise; exact Pure.codes_of b q ⟨44 * 128 + l.val, by omega⟩ 44 l.val rfl)
    (fun q l => by pointwise; exact Pure.codes_of b q ⟨45 * 128 + l.val, by omega⟩ 45 l.val rfl)
    (fun q l => by pointwise; exact Pure.codes_of b q ⟨46 * 128 + l.val, by omega⟩ 46 l.val rfl)
    (fun q l => by pointwise; exact Pure.codes_of b q ⟨47 * 128 + l.val, by omega⟩ 47 l.val rfl)
    (fun q l => by pointwise; exact Pure.codes_of b q ⟨48 * 128 + l.val, by omega⟩ 48 l.val rfl)
    (fun q l => by pointwise; exact Pure.codes_of b q ⟨49 * 128 + l.val, by omega⟩ 49 l.val rfl)
    (fun q l => by pointwise; exact Pure.codes_of b q ⟨50 * 128 + l.val, by omega⟩ 50 l.val rfl)
    (fun q l => by pointwise; exact Pure.codes_of b q ⟨51 * 128 + l.val, by omega⟩ 51 l.val rfl)
    (fun q l => by pointwise; exact Pure.codes_of b q ⟨52 * 128 + l.val, by omega⟩ 52 l.val rfl)
    (fun q l => by pointwise; exact Pure.codes_of b q ⟨53 * 128 + l.val, by omega⟩ 53 l.val rfl)
    (fun q l => by pointwise; exact Pure.codes_of b q ⟨54 * 128 + l.val, by omega⟩ 54 l.val rfl)
    (fun q l => by pointwise; exact Pure.codes_of b q ⟨55 * 128 + l.val, by omega⟩ 55 l.val rfl)
    (fun q l => by pointwise; exact Pure.codes_of b q ⟨56 * 128 + l.val, by omega⟩ 56 l.val rfl)
    (fun q l => by pointwise; exact Pure.codes_of b q ⟨57 * 128 + l.val, by omega⟩ 57 l.val rfl)
    (fun q l => by pointwise; exact Pure.codes_of b q ⟨58 * 128 + l.val, by omega⟩ 58 l.val rfl)
    (fun q l => by pointwise; exact Pure.codes_of b q ⟨59 * 128 + l.val, by omega⟩ 59 l.val rfl)
    (fun q l => by pointwise; exact Pure.codes_of b q ⟨60 * 128 + l.val, by omega⟩ 60 l.val rfl)
    (fun q l => by pointwise; exact Pure.codes_of b q ⟨61 * 128 + l.val, by omega⟩ 61 l.val rfl)
    (fun q l => by pointwise; exact Pure.codes_of b q ⟨62 * 128 + l.val, by omega⟩ 62 l.val rfl)
    (fun q l => by pointwise; exact Pure.codes_of b q ⟨63 * 128 + l.val, by omega⟩ 63 l.val rfl)
    (fun q l => by pointwise; exact Pure.codes_of b q ⟨64 * 128 + l.val, by omega⟩ 64 l.val rfl)
    (fun q l => by pointwise; exact Pure.codes_of b q ⟨65 * 128 + l.val, by omega⟩ 65 l.val rfl)
    (fun q l => by pointwise; exact Pure.codes_of b q ⟨66 * 128 + l.val, by omega⟩ 66 l.val rfl)
    (fun q l => by pointwise; exact Pure.codes_of b q ⟨67 * 128 + l.val, by omega⟩ 67 l.val rfl)
    (fun q l => by pointwise; exact Pure.codes_of b q ⟨68 * 128 + l.val, by omega⟩ 68 l.val rfl)
    (fun q l => by pointwise; exact Pure.codes_of b q ⟨69 * 128 + l.val, by omega⟩ 69 l.val rfl)
    (fun q l => by pointwise; exact Pure.codes_of b q ⟨70 * 128 + l.val, by omega⟩ 70 l.val rfl)
    (fun q l => by pointwise; exact Pure.codes_of b q ⟨71 * 128 + l.val, by omega⟩ 71 l.val rfl)
    (fun q l => by pointwise; exact Pure.codes_of b q ⟨72 * 128 + l.val, by omega⟩ 72 l.val rfl)
    (fun q l => by pointwise; exact Pure.codes_of b q ⟨73 * 128 + l.val, by omega⟩ 73 l.val rfl)
    (fun q l => by pointwise; exact Pure.codes_of b q ⟨74 * 128 + l.val, by omega⟩ 74 l.val rfl)
    (fun q l => by pointwise; exact Pure.codes_of b q ⟨75 * 128 + l.val, by omega⟩ 75 l.val rfl)
    (fun q l => by pointwise; exact Pure.codes_of b q ⟨76 * 128 + l.val, by omega⟩ 76 l.val rfl)
    (fun q l => by pointwise; exact Pure.codes_of b q ⟨77 * 128 + l.val, by omega⟩ 77 l.val rfl)
    (fun q l => by pointwise; exact Pure.codes_of b q ⟨78 * 128 + l.val, by omega⟩ 78 l.val rfl)
    (fun q l => by pointwise; exact Pure.codes_of b q ⟨79 * 128 + l.val, by omega⟩ 79 l.val rfl)
    (fun q l => by pointwise; exact Pure.codes_of b q ⟨80 * 128 + l.val, by omega⟩ 80 l.val rfl)
    (fun q l => by pointwise; exact Pure.codes_of b q ⟨81 * 128 + l.val, by omega⟩ 81 l.val rfl)
    (fun q l => by pointwise; exact Pure.codes_of b q ⟨82 * 128 + l.val, by omega⟩ 82 l.val rfl)
    (fun q l => by pointwise; exact Pure.codes_of b q ⟨83 * 128 + l.val, by omega⟩ 83 l.val rfl)
    (fun q l => by pointwise; exact Pure.codes_of b q ⟨84 * 128 + l.val, by omega⟩ 84 l.val rfl)

theorem lastSlice_slice (b : Vec Ideal S256x11008 .i8) : Pure.Slice b 85 (lastSlice b) := by
  intro q l
  pointwise [lastSlice]
  exact Pure.codes_of b q ⟨85 * 128 + l.val, by omega⟩ 85 l.val rfl

/-- The matrix of inner products of the adapter's rows is computed at the first point and kept. -/
theorem gram_at (c : Dev nD) : ∀ (n : ℕ) (hn : n < cfg0.N), (outsAt0 m c n hn).2.2.2.2.2.2.1 = k0_pay2 (F := Ideal) (m ((c : Thread nD τ).loc main_arg6)) (m ((c : Thread nD τ).loc main_arg6))
  | n, hn => by
    by_cases h0 : n % 16 = 0
    · rw [outsAt0_A m c ⟨n, hn⟩ h0 (by dsimp only; omega)]
      frame_out
      rw [blk2]
    · have ih := gram_at c (n - 1) (lt_of_le_of_lt (Nat.sub_le _ _) hn)
      by_cases h1 : n % 16 = 15
      · rw [outsAt0_C m c ⟨n, hn⟩ h0 h1]
        exact ih
      · rw [outsAt0_B m c ⟨n, hn⟩ h0 h1]
        exact ih
termination_by n => n

/-- The matrix a point reads is the reference's. -/
theorem gram_val (c : Dev nD) (n : ℕ) (hn : n < cfg0.N) (i j : Fin 32) :
    (outsAt0 m c n hn).2.2.2.2.2.2.1 (ix2 i j) = val_main_v17 (F := Ideal) (m ((c : Thread nD τ).loc main_arg6)) (ix2 i j) := by
  rw [gram_at]
  exact Pure.gram _ _ _ rfl rfl i j

/-- The norm a point computes from a matrix of inner products. -/
def normOf (c : Dev nD) (t : Fin cfg0.N) (g : FVec Ideal S32x32 .f32) : FVec Ideal S1x256 .f32 :=
  k0_pay17 (F := Ideal) (k0_pay6 (F := Ideal) (iblk m c 3 t) (iblk m c 2 t)) (iblk m c 5 t) (k0_pay7 (F := Ideal) (iblk m c 4 t)) (sq (iblk m c 3 t)) (lastSlice (iblk m c 3 t)) g

/-- Magnitude over that norm. -/
def coefOf (c : Dev nD) (t : Fin cfg0.N) (g : FVec Ideal S32x32 .f32) : FVec Ideal S1x256 .f32 :=
  k0_pay18 (F := Ideal) (k0_pay6 (F := Ideal) (iblk m c 3 t) (iblk m c 2 t)) (iblk m c 5 t) (k0_pay7 (F := Ideal) (iblk m c 4 t)) (sq (iblk m c 3 t)) (lastSlice (iblk m c 3 t)) g (iblk m c 6 t)

/-- The adapted product a point computes. -/
def adOf (c : Dev nD) (t : Fin cfg0.N) : FVec Ideal S1024x256 .f32 :=
  k0_pay19 (F := Ideal) (k0_pay5 (F := Ideal) (iblk m c 3 t) (iblk m c 0 t)) (iblk m c 5 t) (k0_pay7 (F := Ideal) (iblk m c 4 t)) (iblk m c 1 t)

/-- A matrix that agrees with the reference's matrix of inner products. -/
def Gram (c : Dev nD) (g : FVec Ideal S32x32 .f32) : Prop := ∀ i j : Fin 32, g (ix2 i j) = val_main_v17 (F := Ideal) (m ((c : Thread nD τ).loc main_arg6)) (ix2 i j)

theorem gram_first (c : Dev nD) (t : Fin cfg0.N) : Gram m c (k0_pay2 (F := Ideal) (iblk m c 2 t) (iblk m c 2 t)) :=
  fun i j => Pure.gram _ _ _ (blk2 m c t) (blk2 m c t) i j

theorem gram_kept (c : Dev nD) (n : ℕ) (hn : n < cfg0.N) (h : (Memref.whole cc0_scratch0 : Memref sig .tc .vmem S32x32 .f32).IsWhole) :
    Gram m c (View.read (Elt Ideal) (View.whole cc0_scratch0) (h.unread (outsAt0 m c n hn).2.2.2.2.2.2.1)) := by
  intro i j
  rw [read_unread_whole]
  exact gram_val m c n hn i j

theorem norm_at (c : Dev nD) (t : Fin cfg0.N) (g : FVec Ideal S32x32 .f32) (hg : Gram m c g) :
    Pure.VecTile (pt t) (normOf m c t g) (val_main_v30 (F := Ideal) (m ((c : Thread nD τ).loc main_arg4)) (m ((c : Thread nD τ).loc main_arg5)) (m ((c : Thread nD τ).loc main_arg6)) (m ((c : Thread nD τ).loc main_arg7))) :=
  Pure.norm _ _ _ _ (pt t) _ (blk3 m c t) _ (fun j q => Pure.proj _ _ (pt t) _ (blk3 m c t) _ (blk2 m c t) j q)
    _ (blk5 m c t) _ (Pure.scale _ (pt t) _ (blk4 m c t)) _ (sq_sums _) _ (lastSlice_slice _) g hg

theorem coef_at (c : Dev nD) (t : Fin cfg0.N) (g : FVec Ideal S32x32 .f32) (hg : Gram m c g) :
    Pure.VecTile (pt t) (coefOf m c t g) (val_main_v31 (F := Ideal) (m ((c : Thread nD τ).loc main_arg4)) (m ((c : Thread nD τ).loc main_arg5)) (m ((c : Thread nD τ).loc main_arg6)) (m ((c : Thread nD τ).loc main_arg7)) (m ((c : Thread nD τ).loc main_arg8))) :=
  Pure.coef _ _ _ _ _ (pt t) _ (blk6 m c t) _ _ _ _ _ g (norm_at m c t g hg)

theorem ad_at (c : Dev nD) (t : Fin cfg0.N) : Pure.ColTile (pt t) (adOf m c t) (val_main_v39 (F := Ideal) (m ((c : Thread nD τ).loc main_arg2)) (m ((c : Thread nD τ).loc main_arg3)) (m ((c : Thread nD τ).loc main_arg4)) (m ((c : Thread nD τ).loc main_arg5)) (m ((c : Thread nD τ).loc main_arg7))) :=
  Pure.adapted _ _ _ _ _ (pt t) _ (Pure.raw _ _ (pt t) _ (blk3 m c t) _ (blk0 m c t)) _ (blk5 m c t) _ (Pure.scale _ (pt t) _ (blk4 m c t)) _ (blk1 m c t)

set_option maxHeartbeats 1000000 in
/-- Output 9 holds the layer's output. -/
theorem final_9 (c : Dev nD) : (dats m 0 c).arrAt 9 (cfgs 0).N = (val_main_v44 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 9 _ (by decide +kernel) fun t hf y => ?_
  obtain ⟨r, q, rfl⟩ := eq_ix2 y
  blk_simp; rw [after0_9]
  by_cases h0 : t.val % 16 = 0
  · rw [outsAt0_A m c t h0 (by omega)]; frame_out
    have G := gram_first m c t
    refine (Pure.out _ _ _ _ _ _ _ _ (pt t) _ (coef_at m c t _ G) _ (ad_at m c t) _ (blk7 m c t) r q).trans (congrArg _ ?_)
    blk_ext [pt, Pure.col, idx_val t]
  · have G := gram_kept m c (t.val - 1) (lt_of_le_of_lt (Nat.sub_le _ _) t.isLt) (Memref.isWhole_whole _)
    by_cases h1 : t.val % 16 = 15
    · rw [outsAt0_C m c t h0 h1]; frame_out
      refine (Pure.out _ _ _ _ _ _ _ _ (pt t) _ (coef_at m c t _ G) _ (ad_at m c t) _ (blk7 m c t) r q).trans (congrArg _ ?_)
      blk_ext [pt, Pure.col, idx_val t]
    · rw [outsAt0_B m c t h0 h1]; frame_out
      refine (Pure.out _ _ _ _ _ _ _ _ (pt t) _ (coef_at m c t _ G) _ (ad_at m c t) _ (blk7 m c t) r q).trans (congrArg _ ?_)
      blk_ext [pt, Pure.col, idx_val t]

set_option maxHeartbeats 1000000 in
/-- Output 10 holds the output gradient times magnitude over norm times scale. -/
theorem final_10 (c : Dev nD) : (dats m 0 c).arrAt 10 (cfgs 0).N = (val_main_v55 (F := Ideal) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 10 _ (by decide +kernel) fun t hf y => ?_
  obtain ⟨r, q, rfl⟩ := eq_ix2 y
  blk_simp; rw [after0_10]
  by_cases h0 : t.val % 16 = 0
  · rw [outsAt0_A m c t h0 (by omega)]; frame_out
    have G := gram_first m c t
    refine (Pure.gw _ _ _ _ _ _ (pt t) _ (coef_at m c t _ G) _ (blk8 m c t) _ (Pure.scale _ (pt t) _ (blk4 m c t)) r q).trans (congrArg _ ?_)
    blk_ext [pt, Pure.col, idx_val t]
  · have G := gram_kept m c (t.val - 1) (lt_of_le_of_lt (Nat.sub_le _ _) t.isLt) (Memref.isWhole_whole _)
    by_cases h1 : t.val % 16 = 15
    · rw [outsAt0_C m c t h0 h1]; frame_out
      refine (Pure.gw _ _ _ _ _ _ (pt t) _ (coef_at m c t _ G) _ (blk8 m c t) _ (Pure.scale _ (pt t) _ (blk4 m c t)) r q).trans (congrArg _ ?_)
      blk_ext [pt, Pure.col, idx_val t]
    · rw [outsAt0_B m c t h0 h1]; frame_out
      refine (Pure.gw _ _ _ _ _ _ (pt t) _ (coef_at m c t _ G) _ (blk8 m c t) _ (Pure.scale _ (pt t) _ (blk4 m c t)) r q).trans (congrArg _ ?_)
      blk_ext [pt, Pure.col, idx_val t]

set_option maxHeartbeats 1000000 in
/-- Output 11 holds the norms. -/
theorem final_11 (c : Dev nD) : (dats m 0 c).arrAt 11 (cfgs 0).N = (val_main_v63 (F := Ideal) (m ((c : Thread nD τ).loc main_arg4)) (m ((c : Thread nD τ).loc main_arg5)) (m ((c : Thread nD τ).loc main_arg6)) (m ((c : Thread nD τ).loc main_arg7))) := by
  refine (dats m 0 c).arrAt_eq_of_covers 11 _ (by decide +kernel) fun t hf y => ?_
  obtain ⟨r, q, rfl⟩ := eq_ix2 y
  blk_simp; rw [after0_11]
  by_cases h0 : t.val % 16 = 0
  · rw [outsAt0_A m c t h0 (by omega)]; frame_out
    have G := gram_first m c t
    obtain rfl : r = 0 := Subsingleton.elim _ _
    refine (norm_at m c t _ G q).trans ?_
    pointwise [val_main_v63]
    blk_ext [pt, Pure.col, idx_val t]
  · have G := gram_kept m c (t.val - 1) (lt_of_le_of_lt (Nat.sub_le _ _) t.isLt) (Memref.isWhole_whole _)
    by_cases h1 : t.val % 16 = 15
    · rw [outsAt0_C m c t h0 h1]; frame_out
      obtain rfl : r = 0 := Subsingleton.elim _ _
      refine (norm_at m c t _ G q).trans ?_
      pointwise [val_main_v63]
      blk_ext [pt, Pure.col, idx_val t]
    · rw [outsAt0_B m c t h0 h1]; frame_out
      obtain rfl : r = 0 := Subsingleton.elim _ _
      refine (norm_at m c t _ G q).trans ?_
      pointwise [val_main_v63]
      blk_ext [pt, Pure.col, idx_val t]

set_option maxHeartbeats 1000000 in
/-- Output 12 holds the gradient of the magnitude. -/
theorem final_12 (c : Dev nD) : (dats m 0 c).arrAt 12 (cfgs 0).N = (val_main_v64 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (dats m 0 c).arrAt_eq_of_covers 12 _ (by decide +kernel) fun t hf y => ?_
  obtain ⟨r, q, rfl⟩ := eq_ix2 y
  blk_simp; rw [after0_12]
  by_cases h0 : t.val % 16 = 0
  · rw [outsAt0_A m c t h0 (by omega)]; frame_out
    have G := gram_first m c t
    obtain rfl : r = 0 := Subsingleton.elim _ _
    refine (Pure.dmag _ _ _ _ _ _ _ (pt t) _ (norm_at m c t _ G) _ (ad_at m c t) _ (blk8 m c t) q).trans ?_
    pointwise [val_main_v64]
    blk_ext [pt, Pure.col, idx_val t]
  · have G := gram_kept m c (t.val - 1) (lt_of_le_of_lt (Nat.sub_le _ _) t.isLt) (Memref.isWhole_whole _)
    by_cases h1 : t.val % 16 = 15
    · rw [outsAt0_C m c t h0 h1]; frame_out
      obtain rfl : r = 0 := Subsingleton.elim _ _
      refine (Pure.dmag _ _ _ _ _ _ _ (pt t) _ (norm_at m c t _ G) _ (ad_at m c t) _ (blk8 m c t) q).trans ?_
      pointwise [val_main_v64]
      blk_ext [pt, Pure.col, idx_val t]
    · rw [outsAt0_B m c t h0 h1]; frame_out
      obtain rfl : r = 0 := Subsingleton.elim _ _
      refine (Pure.dmag _ _ _ _ _ _ _ (pt t) _ (norm_at m c t _ G) _ (ad_at m c t) _ (blk8 m c t) q).trans ?_
      pointwise [val_main_v64]
      blk_ext [pt, Pure.col, idx_val t]

set_option maxHeartbeats 1000000 in
/-- Output 13 holds the gradient of the adapter's second factor. -/
theorem final_13 (c : Dev nD) : (dats m 0 c).arrAt 13 (cfgs 0).N = (val_main_v58 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 13 _ (by decide +kernel) fun t hf y => ?_
  obtain ⟨r, q, rfl⟩ := eq_ix2 y
  blk_simp; rw [after0_13]
  by_cases h0 : t.val % 16 = 0
  · rw [outsAt0_A m c t h0 (by omega)]; frame_out
    have G := gram_first m c t
    refine (Pure.db _ _ _ _ _ _ _ (pt t) _ (coef_at m c t _ G) _ (blk8 m c t) _ (blk1 m c t) r q).trans (congrArg _ ?_)
    blk_ext [pt, Pure.col, idx_val t]
  · have G := gram_kept m c (t.val - 1) (lt_of_le_of_lt (Nat.sub_le _ _) t.isLt) (Memref.isWhole_whole _)
    by_cases h1 : t.val % 16 = 15
    · rw [outsAt0_C m c t h0 h1]; frame_out
      refine (Pure.db _ _ _ _ _ _ _ (pt t) _ (coef_at m c t _ G) _ (blk8 m c t) _ (blk1 m c t) r q).trans (congrArg _ ?_)
      blk_ext [pt, Pure.col, idx_val t]
    · rw [outsAt0_B m c t h0 h1]; frame_out
      refine (Pure.db _ _ _ _ _ _ _ (pt t) _ (coef_at m c t _ G) _ (blk8 m c t) _ (blk1 m c t) r q).trans (congrArg _ ?_)
      blk_ext [pt, Pure.col, idx_val t]

set_option maxHeartbeats 1000000 in
/-- The accumulator after the last point: the sum of all tiles' parts. -/
theorem acc_at (c : Dev nD) (n : ℕ) (hn : n < cfg0.N) : ∀ j : S1024x32.Idx, (outsAt0 m c n hn).2.2.2.2.2.2.2 j = ∑ i : Fin (n + 1), (if h : i.val < 16 then Pure.part (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) ⟨i.val, h⟩ j else 0 : EReal) := by
  induction n with
  | zero =>
    intro j
    obtain ⟨r, q, rfl⟩ := eq_ix2 j
    rw [outsAt0_A m c ⟨0, hn⟩ rfl (by dsimp only; omega)]; frame_out
    have G := gram_first m c ⟨0, hn⟩
    refine (Pure.step _ _ _ _ _ _ (pt ⟨0, hn⟩) _ (coef_at m c ⟨0, hn⟩ _ G) _ (blk8 m c ⟨0, hn⟩) _ (blk5 m c ⟨0, hn⟩) _ r q).trans ?_
    rw [Pure.zero, zero_add, Fin.sum_univ_one]
    rfl
  | succ n ih =>
    intro j
    obtain ⟨r, q, rfl⟩ := eq_ix2 j
    have hN : n + 1 < 16 := lt_of_lt_of_eq hn N_0
    have G := gram_kept m c n (Nat.lt_of_succ_lt hn) (Memref.isWhole_whole _)
    have hs := fun a => Pure.step _ _ _ _ _ _ (pt ⟨n + 1, hn⟩) _ (coef_at m c ⟨n + 1, hn⟩ _ G) _ (blk8 m c ⟨n + 1, hn⟩) _ (blk5 m c ⟨n + 1, hn⟩) a r q
    have hl := ih (Nat.lt_of_succ_lt hn) (ix2 r q)
    rw [Fin.sum_univ_castSucc]
    by_cases h1 : (n + 1) % 16 = 15
    · rw [outsAt0_C m c ⟨n + 1, hn⟩ (by dsimp only; omega) h1]; frame_out
      refine (hs _).trans (congrArg₂ (· + ·) ?_ (by rw [dif_pos (show (Fin.last (n + 1)).val < 16 from hN)]; rfl))
      rw [read_unread_whole]
      exact hl
    · rw [outsAt0_B m c ⟨n + 1, hn⟩ (by dsimp only; omega) h1]; frame_out
      refine (hs _).trans (congrArg₂ (· + ·) ?_ (by rw [dif_pos (show (Fin.last (n + 1)).val < 16 from hN)]; rfl))
      rw [read_unread_whole]
      exact hl

set_option maxHeartbeats 1000000 in
/-- Output 14 holds the gradient that goes back through the adapter. -/
theorem final_14 (c : Dev nD) : (dats m 0 c).arrAt 14 (cfgs 0).N = (val_main_v62 (F := Ideal) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_after_last 14 t0_15 (by decide +kernel) _ fun j => ?_
  blk_simp
  obtain ⟨r, q, rfl⟩ := eq_ix2 j
  have hacc := acc_at m c t0_15.val t0_15.isLt (ix2 r q)
  rw [outsAt0_C m c t0_15 (by decide) (by decide)] at hacc
  rw [after0_14, outsAt0_C m c t0_15 (by decide) (by decide)]
  dsimp only at hacc ⊢
  frame_out
  refine Pure.last _ _ _ _ _ _ _ r q (Eq.trans ?_ (hacc.trans ?_))
  · frame_out
  · pointwise [val_main_v59]
    unfold Pure.part
    simp only [Fin.is_lt, dite_true]
    refine Fin.sum_mul_add_congr fun t q hl => ?_
    rfl

end Cert.DownIdeal.Final

end
-- ==== Proof.BwdRunA.lean ====
/- One run of the backward kernel's body at the first grid point (case A): its triple, with the pieces each buffer ends with as witness. -/
module

public import proofs.«01_k».proof.Proof.Gen.Bwd.Frame.Runs

@[expose] public section

-- membership in a rectangle of production extents (`View.cover_of_tiled`): the elaborator's structural look
-- recurses once per coordinate of the long axes
set_option maxRecDepth 16384

noncomputable section

namespace Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18, 19, 20, 21, 22, 23, 24, 25) at anything, handed back at some contents nothing names. -/
noncomputable def kernelRun0_A (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) :
    Σ' (LS0 : List (View.Piece (Elt F) S1024x32 .f32)), { LS1 : List (View.Piece (Elt F) S1024x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_bwd_eq_skeleton]; unfold cc0_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HS0]; · iexists _; iexact HS0
    iexists _; iexact HS1

end Cert.Bwd.Gen

end
-- ==== Proof.BwdRunB.lean ====
/- One run of the backward kernel's body at a grid point in the middle (case B): its triple, with the pieces each buffer ends with as witness. -/
module

public import proofs.«01_k».proof.Proof.Gen.Bwd.Frame.Runs

@[expose] public section

-- membership in a rectangle of production extents (`View.cover_of_tiled`): the elaborator's structural look
-- recurses once per coordinate of the long axes
set_option maxRecDepth 16384

noncomputable section

namespace Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE B (`scf.if` 0 not taken, `scf.if` 1 not taken: points 1, 2, … 41: 41 of 43), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18, 19, 20, 21, 22, 23, 24, 25) at anything, handed back at some contents nothing names. -/
noncomputable def kernelRun0_B (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) :
    Σ' (LS0 : List (View.Piece (Elt F) S1024x32 .f32)), { LS1 : List (View.Piece (Elt F) S1024x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0 ∗ owns (c : Thread nD τ) arg28 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_bwd_eq_skeleton]; unfold cc0_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg27.eq_unread hfs0; obtain rfl := harg28.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HS0]; · iexists _; iexact HS0
    iexists _; iexact HS1

end Cert.Bwd.Gen

end
-- ==== Proof.BwdRunC.lean ====
/- One run of the backward kernel's body at the last grid point (case C): its triple, with the pieces each buffer ends with as witness. -/
module

public import proofs.«01_k».proof.Proof.Gen.Bwd.Frame.Runs

@[expose] public section

-- membership in a rectangle of production extents (`View.cover_of_tiled`): the elaborator's structural look
-- recurses once per coordinate of the long axes
set_option maxRecDepth 16384

noncomputable section

namespace Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE C (`scf.if` 0 not taken, `scf.if` 1 taken: points 42), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18, 19, 20, 21, 22, 23, 24, 25) at anything, handed back at some contents nothing names. -/
noncomputable def kernelRun0_C (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) :
    Σ' (LS0 : List (View.Piece (Elt F) S1024x32 .f32)), { LS1 : List (View.Piece (Elt F) S1024x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0 ∗ owns (c : Thread nD τ) arg28 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_bwd_eq_skeleton]; unfold cc0_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg27.eq_unread hfs0; obtain rfl := harg28.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HS0]; · iexists _; iexact HS0
    iexists _; iexact HS1

end Cert.Bwd.Gen

end
-- ==== Proof.BwdFrame.lean ====
/- The backward kernel's frame: what its two accumulators hold after each grid point, the pipeline's proof data, the
   body at any grid point, the run of the whole program, and that its arguments end unchanged. -/
module

public import proofs.«01_k».proof.Proof.BwdRunA
public import proofs.«01_k».proof.Proof.BwdRunB
public import proofs.«01_k».proof.Proof.BwdRunC
public import Idealize.ShloMosaic.Lib.Claim

@[expose] public section

-- membership in a rectangle of production extents (`View.cover_of_tiled`): the elaborator's structural look
-- recurses once per coordinate of the long axes
set_option maxRecDepth 16384

noncomputable section

namespace Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg27`, which the kernel carries between points, cover it: 2 pieces of `S1024x32` tiling it. -/
theorem scover0_A_0 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (y : S1024x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).1 S1024x32.size (by sl_kernel_rfl) y

/-- What case A leaves in scratch `arg27`: its pieces read back over junk. -/
def sout0_A_0 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) : Vec F S1024x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).1)

/-- Case A's pieces for scratch `arg28`, which the kernel carries between points, cover it: 2 pieces of `S1024x32` tiling it. -/
theorem scover0_A_1 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (y : S1024x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.1 S1024x32.size (by sl_kernel_rfl) y

/-- What case A leaves in scratch `arg28`: its pieces read back over junk. -/
def sout0_A_1 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) : Vec F S1024x32 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.1)

/-- Case B's pieces for scratch `arg27`, which the kernel carries between points, cover it: 1 piece of `S1024x32` tiling it. -/
theorem scover0_B_0 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) (y : S1024x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).1 S1024x32.size (by sl_kernel_rfl) y

/-- What case B leaves in scratch `arg27`: its pieces read back over junk. -/
def sout0_B_0 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) : Vec F S1024x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).1)

/-- Case B's pieces for scratch `arg28`, which the kernel carries between points, cover it: 1 piece of `S1024x32` tiling it. -/
theorem scover0_B_1 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) (y : S1024x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).2.1 S1024x32.size (by sl_kernel_rfl) y

/-- What case B leaves in scratch `arg28`: its pieces read back over junk. -/
def sout0_B_1 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) : Vec F S1024x32 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).2.1)

/-- Case C's pieces for scratch `arg27`, which the kernel carries between points, cover it: 1 piece of `S1024x32` tiling it. -/
theorem scover0_C_0 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) (y : S1024x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).1 S1024x32.size (by sl_kernel_rfl) y

/-- What case C leaves in scratch `arg27`: its pieces read back over junk. -/
def sout0_C_0 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) : Vec F S1024x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).1)

/-- Case C's pieces for scratch `arg28`, which the kernel carries between points, cover it: 1 piece of `S1024x32` tiling it. -/
theorem scover0_C_1 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) (y : S1024x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).2.1 S1024x32.size (by sl_kernel_rfl) y

/-- What case C leaves in scratch `arg28`: its pieces read back over junk. -/
def sout0_C_1 (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xs0 : Vec F S1024x32 .f32) (xs1 : Vec F S1024x32 .f32) : Vec F S1024x32 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1).2.1)

/-! ## What the outputs hold after each point -/

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x32 .f32 × Vec F S1024x32 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩))
  | n + 1, hn =>
    if h0 : (n + 1) % 43 = 0 then
      if h1 : (n + 1) % 43 = 42 then
        False.elim (by have hN : n + 1 < 43 := lt_of_lt_of_eq hn (show cfg0.N = 43 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩))
    else
      if h1 : (n + 1) % 43 = 42 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).1 (outsAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).1 (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 43 = 0) (h1 : ¬t.val % 43 = 42) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 43 = 0) (h1 : ¬t.val % 43 = 42) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 43 = 0) (h1 : t.val % 43 = 42) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).1 (outsAt0 m c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2)) ∗ (∃ r, prngReg c r)) := by
  cases n with
  | zero => exact absurd rfl hz
  | succ n => rfl

/-! ## The pipeline's proof data -/

/-- The output windows this certificate FORGETS (18, 19, 20, 21, 22, 23, 24, 25): nothing reads what the kernel leaves in them, so nothing
    of it is named. -/
def forgets0 : Fin 26 → Bool := fun w => w.val == 18 || w.val == 19 || w.val == 20 || w.val == 21 || w.val == 22 || w.val == 23 || w.val == 24 || w.val == 25

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

set_option maxHeartbeats 33600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl]
  rw [show (dats m 0 c).Φ t.succ = PhiS m c (t.val + 1) t.isLt from rfl, PhiS_succ]
  have hN : t.val < 43 := lt_of_lt_of_eq t.isLt (show cfg0.N = 43 from N_0)
  by_cases h0 : t.val % 43 = 0
  · by_cases h1 : t.val % 43 = 42
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [HS0]; · iexact HS0
        isplitl [HS1]; · iexact HS1
        iintro ⟨H0, H1, H2, H3, H4, H5, H6, H7, H8, H9, H10, H11, H12, H13, H14, H15, H16, H17, H18, H19, H20, H21, H22, H23, H24, H25, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        iexact H25
      · exfalso; have hN : t.val < 43 := lt_of_lt_of_eq t.isLt (show cfg0.N = 43 from N_0); omega
  · by_cases h1 : t.val % 43 = 42
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      by_cases hz : t.val = 0
      · exfalso; have hN : t.val < 43 := lt_of_lt_of_eq t.isLt (show cfg0.N = 43 from N_0); omega
      · rw [PhiS_castSucc m c t, PhiS_pos m c _ _ hz]
        rw [outsAt0_C m c t h0 h1]
        unfold sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [HS0]; · iexact HS0
        isplitl [HS1]; · iexact HS1
        iintro ⟨H0, H1, H2, H3, H4, H5, H6, H7, H8, H9, H10, H11, H12, H13, H14, H15, H16, H17, H18, H19, H20, H21, H22, H23, H24, H25, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        iexact H25
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      by_cases hz : t.val = 0
      · exfalso; have hN : t.val < 43 := lt_of_lt_of_eq t.isLt (show cfg0.N = 43 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [HS0]; · iexact HS0
        isplitl [HS1]; · iexact HS1
        iintro ⟨H0, H1, H2, H3, H4, H5, H6, H7, H8, H9, H10, H11, H12, H13, H14, H15, H16, H17, H18, H19, H20, H21, H22, H23, H24, H25, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 43 := N_0; omega)

/-! ## The run and the frame -/

-- `θ_run_frame_track_forget`'s implicit arguments are found by unifying its conclusion with this one, which takes unfolding plain
-- definitions in a metavariable's type
set_option backward.isDefEq.respectTransparency.types false in
/-- `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 18, 19, 20, 21, 22, 23, 24, 25), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 4000000 in
/-- If a run ends with the input arrays of the pipeline unchanged and every buffer outside it as it was, the argument arrays
    end unchanged. -/
theorem frame_of_inputs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (Pipeline.mem_restRefs_of main_arg9 (by decide) (by decide))).trans (V_main_arg9 m c),
      (Pipeline.RDat.FramePost.arr_in h c 10 rfl).trans ((hA c 10).trans (V_main_arg10 m c)),
      ((h c).2 main_arg11 (Pipeline.mem_restRefs_of main_arg11 (by decide) (by decide))).trans (V_main_arg11 m c),
      (Pipeline.RDat.FramePost.arr_in h c 12 rfl).trans ((hA c 12).trans (V_main_arg12 m c)),
      (Pipeline.RDat.FramePost.arr_in h c 13 rfl).trans ((hA c 13).trans (V_main_arg13 m c)),
      ((h c).2 main_arg14 (Pipeline.mem_restRefs_of main_arg14 (by decide) (by decide))).trans (V_main_arg14 m c),
      (Pipeline.RDat.FramePost.arr_in h c 15 rfl).trans ((hA c 15).trans (V_main_arg15 m c)),
      ((h c).2 main_arg16 (Pipeline.mem_restRefs_of main_arg16 (by decide) (by decide))).trans (V_main_arg16 m c),
      (Pipeline.RDat.FramePost.arr_in h c 17 rfl).trans ((hA c 17).trans (V_main_arg17 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of_inputs m ρ (fun c => (dats m 0 c).toRForget forgets0) (A_eq m) (run_main m ρ)

/-- Every execution ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Bwd.Gen

end
-- ==== Proof.BwdIdealRunA.lean ====
/- One run of the backward kernel's body idealized at the first grid point (case A): its triple, with the pieces each buffer ends with as witness. -/
module

public import proofs.«01_k».proof.Proof.Gen.BwdIdeal.Frame.Runs

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE A (`scf.if` 0 taken, `scf.if` 1 not taken: points 0), WITH the
    proof that on whole staging memrefs — the inputs' at their contents, the outputs it leaves idle (24, 25: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) :
    Σ' (L18 : List (View.Piece (Elt F) S32x256 .f32)), Σ' (L19 : List (View.Piece (Elt F) S1x256 .f32)), Σ' (L20 : List (View.Piece (Elt F) S1x256 .f32)), Σ' (L21 : List (View.Piece (Elt F) S256x32 .f32)), Σ' (L22 : List (View.Piece (Elt F) S256x32 .f32)), Σ' (L23 : List (View.Piece (Elt F) S1024x4096 .f32)), Σ' (L24 : List (View.Piece (Elt F) S1024x32 .bf16)), Σ' (L25 : List (View.Piece (Elt F) S1024x32 .bf16)), Σ' (LS0 : List (View.Piece (Elt F) S1024x32 .f32)), { LS1 : List (View.Piece (Elt F) S1024x32 .f32) //
      ∀ (xi24 : Vec F S1024x32 .bf16) (xi25 : Vec F S1024x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xi24 ∗ owns (c : Thread nD τ) arg26 fullShare xi25 ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ owns (c : Thread nD τ) arg25 fullShare xi24 ∗ owns (c : Thread nD τ) arg26 fullShare xi25 ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, [], [], ?_, ?_, fun xi24 xi25 E K => ?run⟩
  case run =>
    simp only [cc0_bwd_eq_skeleton]; unfold cc0_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%f25, %hf25, H25⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg25.eq_unread hf24; obtain rfl := harg26.eq_unread hf25
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]
    · iexists _; isplitr; · ipureintro; exact harg25.read_unread _
      iexact H24
    isplitl [H25]
    · iexists _; isplitr; · ipureintro; exact harg26.read_unread _
      iexact H25
    isplitl [HS0]; · iexists _; iexact HS0
    iexists _; iexact HS1

end Cert.BwdIdeal.Gen

end
-- ==== Proof.BwdIdealRunB.lean ====
/- One run of the backward kernel's body idealized at a grid point in the middle (case B): its triple, with the pieces each buffer ends with as witness. -/
module

public import proofs.«01_k».proof.Proof.Gen.BwdIdeal.Frame.Runs

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE B (`scf.if` 0 not taken, `scf.if` 1 not taken: points 1, 2, … 41: 41 of 43), WITH the
    proof that on whole staging memrefs — the inputs' at their contents, the outputs it reads before covering (23) at their running contents `xo·`, the outputs it leaves idle (24, 25: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : ¬cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xo23 : Vec F S1024x4096 .f32) (xs0 : Vec F S1024x32 .f32) (xs1 : Vec F S1024x32 .f32) :
    Σ' (L18 : List (View.Piece (Elt F) S32x256 .f32)), Σ' (L19 : List (View.Piece (Elt F) S1x256 .f32)), Σ' (L20 : List (View.Piece (Elt F) S1x256 .f32)), Σ' (L21 : List (View.Piece (Elt F) S256x32 .f32)), Σ' (L22 : List (View.Piece (Elt F) S256x32 .f32)), Σ' (L23 : List (View.Piece (Elt F) S1024x4096 .f32)), Σ' (L24 : List (View.Piece (Elt F) S1024x32 .bf16)), Σ' (L25 : List (View.Piece (Elt F) S1024x32 .bf16)), Σ' (LS0 : List (View.Piece (Elt F) S1024x32 .f32)), { LS1 : List (View.Piece (Elt F) S1024x32 .f32) //
      ∀ (xi24 : Vec F S1024x32 .bf16) (xi25 : Vec F S1024x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xo23 ∗ owns (c : Thread nD τ) arg25 fullShare xi24 ∗ owns (c : Thread nD τ) arg26 fullShare xi25 ∗ owns (c : Thread nD τ) arg27 fullShare xs0 ∗ owns (c : Thread nD τ) arg28 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ owns (c : Thread nD τ) arg25 fullShare xi24 ∗ owns (c : Thread nD τ) arg26 fullShare xi25 ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, [], [], ?_, ?_, fun xi24 xi25 E K => ?run⟩
  case run =>
    simp only [cc0_bwd_eq_skeleton]; unfold cc0_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%f25, %hf25, H25⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg24.eq_unread hf23; obtain rfl := harg25.eq_unread hf24; obtain rfl := harg26.eq_unread hf25; obtain rfl := harg27.eq_unread hfs0; obtain rfl := harg28.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]
    · iexists _; isplitr; · ipureintro; exact harg25.read_unread _
      iexact H24
    isplitl [H25]
    · iexists _; isplitr; · ipureintro; exact harg26.read_unread _
      iexact H25
    isplitl [HS0]; · iexists _; iexact HS0
    iexists _; iexact HS1

end Cert.BwdIdeal.Gen

end
-- ==== Proof.BwdIdealRunC.lean ====
/- One run of the backward kernel's body idealized at the last grid point (case C): its triple, with the pieces each buffer ends with as witness. -/
module

public import proofs.«01_k».proof.Proof.Gen.BwdIdeal.Frame.Runs

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE C (`scf.if` 0 not taken, `scf.if` 1 taken: points 42), WITH the
    proof that on whole staging memrefs — the inputs' at their contents, the outputs it reads before covering (23) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : cond0_1 i)
    (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xo23 : Vec F S1024x4096 .f32) (xs0 : Vec F S1024x32 .f32) (xs1 : Vec F S1024x32 .f32) :
    Σ' (L18 : List (View.Piece (Elt F) S32x256 .f32)), Σ' (L19 : List (View.Piece (Elt F) S1x256 .f32)), Σ' (L20 : List (View.Piece (Elt F) S1x256 .f32)), Σ' (L21 : List (View.Piece (Elt F) S256x32 .f32)), Σ' (L22 : List (View.Piece (Elt F) S256x32 .f32)), Σ' (L23 : List (View.Piece (Elt F) S1024x4096 .f32)), Σ' (L24 : List (View.Piece (Elt F) S1024x32 .bf16)), Σ' (L25 : List (View.Piece (Elt F) S1024x32 .bf16)), Σ' (LS0 : List (View.Piece (Elt F) S1024x32 .f32)), { LS1 : List (View.Piece (Elt F) S1024x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xo23 ∗ (∃ d, owns (c : Thread nD τ) arg25 fullShare d) ∗ (∃ d, owns (c : Thread nD τ) arg26 fullShare d) ∗ owns (c : Thread nD τ) arg27 fullShare xs0 ∗ owns (c : Thread nD τ) arg28 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, fun E K => ?run⟩
  case run =>
    simp only [cc0_bwd_eq_skeleton]; unfold cc0_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%d24, %f24, -, H24⟩, ⟨%d25, %f25, -, H25⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg24.eq_unread hf23; obtain rfl := harg27.eq_unread hfs0; obtain rfl := harg28.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    iexists _; iexact HS1

end Cert.BwdIdeal.Gen

end
-- ==== Proof.BwdIdealOuts.lean ====
/- What the backward kernel's outputs and its two accumulators hold after each grid point, in the program
   idealized: per case of the kernel's conditionals (the first point, a middle point, the last point), then point by point. -/
module

public import proofs.«01_k».proof.Proof.BwdIdealRunA
public import proofs.«01_k».proof.Proof.BwdIdealRunB
public import proofs.«01_k».proof.Proof.BwdIdealRunC
public import Idealize.ShloMosaic.Lib.Claim

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section CaseA

variable (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : cond0_0 i) (hc1 : ¬cond0_1 i) (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32)

/-- Case A's pieces for output 18 tile its block (1 store of `S32x256`). -/
theorem cover0_A_18 (y : S32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).1, y ∈ pc.1.set :=
  View.cover_of_tiledL _ S32x256.size (by sl_kernel_rfl) y

/-- What case A leaves in output 18's staging buffer: its pieces read back over junk. -/
def out0_A_18 : Vec F S32x256 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).1)

/-- Case A's pieces for output 19 tile its block (1 store of `S1x256`). -/
theorem cover0_A_19 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.1, y ∈ pc.1.set :=
  View.cover_of_tiledL _ S1x256.size (by sl_kernel_rfl) y

/-- What case A leaves in output 19's staging buffer: its pieces read back over junk. -/
def out0_A_19 : Vec F S1x256 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.1)

/-- Case A's pieces for output 20 tile its block (1 store of `S1x256`). -/
theorem cover0_A_20 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.1, y ∈ pc.1.set :=
  View.cover_of_tiledL _ S1x256.size (by sl_kernel_rfl) y

/-- What case A leaves in output 20's staging buffer: its pieces read back over junk. -/
def out0_A_20 : Vec F S1x256 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.1)

/-- Case A's pieces for output 21 tile its block (1 store of `S256x32`). -/
theorem cover0_A_21 (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.1, y ∈ pc.1.set :=
  View.cover_of_tiledL _ S256x32.size (by sl_kernel_rfl) y

/-- What case A leaves in output 21's staging buffer: its pieces read back over junk. -/
def out0_A_21 : Vec F S256x32 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.1)

/-- Case A's pieces for output 22 tile its block (1 store of `S256x32`). -/
theorem cover0_A_22 (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.1, y ∈ pc.1.set :=
  View.cover_of_tiledL _ S256x32.size (by sl_kernel_rfl) y

/-- What case A leaves in output 22's staging buffer: its pieces read back over junk. -/
def out0_A_22 : Vec F S256x32 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.1)

/-- Case A's pieces for output 23 tile its block (2 stores of `S1024x4096`). -/
theorem cover0_A_23 (y : S1024x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.1, y ∈ pc.1.set :=
  View.cover_of_tiledL _ S1024x4096.size (by sl_kernel_rfl) y

/-- What case A leaves in output 23's staging buffer: its pieces read back over junk. -/
def out0_A_23 : Vec F S1024x4096 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.1)

/-- Case A stores nothing into output 24 (the window is idle at its points and not written back there):
    no pieces — a placeholder (junk read back) that nothing consults, since at these points the window is neither
    written back nor read at the next point. -/
def out0_A_24 : Vec F S1024x32 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.2.1)

/-- Case A stores nothing into output 25 (the window is idle at its points and not written back there):
    no pieces — a placeholder (junk read back) that nothing consults, since at these points the window is neither
    written back nor read at the next point. -/
def out0_A_25 : Vec F S1024x32 .bf16 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.2.2.1)

/-- Case A's pieces for scratch `arg27`, which the kernel carries between points, cover it: 2 pieces of `S1024x32` tiling it. -/
theorem scover0_A_0 (y : S1024x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.2.2.2.1, y ∈ pc.1.set :=
  View.cover_of_tiledL _ S1024x32.size (by sl_kernel_rfl) y

/-- What case A leaves in scratch `arg27`: its pieces read back over junk. -/
def sout0_A_0 : Vec F S1024x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.2.2.2.1)

/-- Case A's pieces for scratch `arg28`, which the kernel carries between points, cover it: 2 pieces of `S1024x32` tiling it. -/
theorem scover0_A_1 (y : S1024x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.2.2.2.2.1, y ∈ pc.1.set :=
  View.cover_of_tiledL _ S1024x32.size (by sl_kernel_rfl) y

/-- What case A leaves in scratch `arg28`: its pieces read back over junk. -/
def sout0_A_1 : Vec F S1024x32 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17).2.2.2.2.2.2.2.2.2.1)

end CaseA

section CaseB

variable (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : ¬cond0_1 i) (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xo23 : Vec F S1024x4096 .f32) (xs0 : Vec F S1024x32 .f32) (xs1 : Vec F S1024x32 .f32)

/-- Case B's pieces for output 18 tile its block (1 store of `S32x256`). -/
theorem cover0_B_18 (y : S32x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).1, y ∈ pc.1.set :=
  View.cover_of_tiledL _ S32x256.size (by sl_kernel_rfl) y

/-- What case B leaves in output 18's staging buffer: its pieces read back over junk. -/
def out0_B_18 : Vec F S32x256 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).1)

/-- Case B's pieces for output 19 tile its block (1 store of `S1x256`). -/
theorem cover0_B_19 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.1, y ∈ pc.1.set :=
  View.cover_of_tiledL _ S1x256.size (by sl_kernel_rfl) y

/-- What case B leaves in output 19's staging buffer: its pieces read back over junk. -/
def out0_B_19 : Vec F S1x256 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.1)

/-- Case B's pieces for output 20 tile its block (1 store of `S1x256`). -/
theorem cover0_B_20 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.1, y ∈ pc.1.set :=
  View.cover_of_tiledL _ S1x256.size (by sl_kernel_rfl) y

/-- What case B leaves in output 20's staging buffer: its pieces read back over junk. -/
def out0_B_20 : Vec F S1x256 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.1)

/-- Case B's pieces for output 21 tile its block (1 store of `S256x32`). -/
theorem cover0_B_21 (y : S256x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.1, y ∈ pc.1.set :=
  View.cover_of_tiledL _ S256x32.size (by sl_kernel_rfl) y

/-- What case B leaves in output 21's staging buffer: its pieces read back over junk. -/
def out0_B_21 : Vec F S256x32 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.1)

/-- Case B's pieces for output 22 tile its block (1 store of `S256x32`). -/
theorem cover0_B_22 (y : S256x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.1, y ∈ pc.1.set :=
  View.cover_of_tiledL _ S256x32.size (by sl_kernel_rfl) y

/-- What case B leaves in output 22's staging buffer: its pieces read back over junk. -/
def out0_B_22 : Vec F S256x32 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.1)

/-- Case B's pieces for output 23 tile its block (1 store of `S1024x4096`). -/
theorem cover0_B_23 (y : S1024x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.1, y ∈ pc.1.set :=
  View.cover_of_tiledL _ S1024x4096.size (by sl_kernel_rfl) y

/-- What case B leaves in output 23's staging buffer: its pieces read back over junk. -/
def out0_B_23 : Vec F S1024x4096 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.1)

/-- Case B stores nothing into output 24 (the window is idle at its points and not written back there):
    no pieces — a placeholder (junk read back) that nothing consults, since at these points the window is neither
    written back nor read at the next point. -/
def out0_B_24 : Vec F S1024x32 .bf16 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.1)

/-- Case B stores nothing into output 25 (the window is idle at its points and not written back there):
    no pieces — a placeholder (junk read back) that nothing consults, since at these points the window is neither
    written back nor read at the next point. -/
def out0_B_25 : Vec F S1024x32 .bf16 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.1)

/-- Case B's pieces for scratch `arg27`, which the kernel carries between points, cover it: 1 piece of `S1024x32` tiling it. -/
theorem scover0_B_0 (y : S1024x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.1, y ∈ pc.1.set :=
  View.cover_of_tiledL _ S1024x32.size (by sl_kernel_rfl) y

/-- What case B leaves in scratch `arg27`: its pieces read back over junk. -/
def sout0_B_0 : Vec F S1024x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.1)

/-- Case B's pieces for scratch `arg28`, which the kernel carries between points, cover it: 1 piece of `S1024x32` tiling it. -/
theorem scover0_B_1 (y : S1024x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.2.1, y ∈ pc.1.set :=
  View.cover_of_tiledL _ S1024x32.size (by sl_kernel_rfl) y

/-- What case B leaves in scratch `arg28`: its pieces read back over junk. -/
def sout0_B_1 : Vec F S1024x32 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.2.1)

end CaseB

section CaseC

variable (c : Dev nD) (i : grid0.Coords) (arg1 : Memref sig .tc .vmem S1024x4096 .bf16) (harg1 : arg1.IsWhole) (arg2 : Memref sig .tc .vmem S1024x32 .bf16) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S32x256 .bf16) (harg5 : arg5.IsWhole) (arg6 : Memref sig .tc .vmem S4096x256 .i8) (harg6 : arg6.IsWhole) (arg7 : Memref sig .tc .vmem S1024x256 .f32) (harg7 : arg7.IsWhole) (arg8 : Memref sig .tc .vmem S1024x256 .f32) (harg8 : arg8.IsWhole) (arg9 : Memref sig .tc .vmem S256x4096 .i8) (harg9 : arg9.IsWhole) (arg10 : Memref sig .tc .vmem S1x256 .f32) (harg10 : arg10.IsWhole) (arg11 : Memref sig .tc .vmem S256x32 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .i8) (harg14 : arg14.IsWhole) (arg15 : Memref sig .tc .vmem S1x256 .f32) (harg15 : arg15.IsWhole) (arg16 : Memref sig .tc .vmem S256x32 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S32x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x32 .f32) (harg22 : arg22.IsWhole) (arg23 : Memref sig .tc .vmem S256x32 .f32) (harg23 : arg23.IsWhole) (arg24 : Memref sig .tc .vmem S1024x4096 .f32) (harg24 : arg24.IsWhole) (arg25 : Memref sig .tc .vmem S1024x32 .bf16) (harg25 : arg25.IsWhole) (arg26 : Memref sig .tc .vmem S1024x32 .bf16) (harg26 : arg26.IsWhole) (arg27 : Memref sig .tc .vmem S1024x32 .f32) (harg27 : arg27.IsWhole) (arg28 : Memref sig .tc .vmem S1024x32 .f32) (harg28 : arg28.IsWhole) (hc0 : ¬cond0_0 i) (hc1 : cond0_1 i) (x0 : Vec F S1024x4096 .bf16) (x1 : Vec F S1024x32 .bf16) (x2 : Vec F S1024x32 .bf16) (x3 : Vec F S1024x32 .bf16) (x4 : Vec F S32x256 .bf16) (x5 : Vec F S4096x256 .i8) (x6 : Vec F S1024x256 .f32) (x7 : Vec F S1024x256 .f32) (x8 : Vec F S256x4096 .i8) (x9 : Vec F S1x256 .f32) (x10 : Vec F S256x32 .bf16) (x11 : Vec F S1x256 .f32) (x12 : Vec F S1x256 .f32) (x13 : Vec F S256x4096 .i8) (x14 : Vec F S1x256 .f32) (x15 : Vec F S256x32 .bf16) (x16 : Vec F S1x256 .f32) (x17 : Vec F S1x256 .f32) (xo23 : Vec F S1024x4096 .f32) (xs0 : Vec F S1024x32 .f32) (xs1 : Vec F S1024x32 .f32)

/-- Case C's pieces for output 18 tile its block (1 store of `S32x256`). -/
theorem cover0_C_18 (y : S32x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).1, y ∈ pc.1.set :=
  View.cover_of_tiledL _ S32x256.size (by sl_kernel_rfl) y

/-- What case C leaves in output 18's staging buffer: its pieces read back over junk. -/
def out0_C_18 : Vec F S32x256 .f32 :=
  VO0_18.read (Elt F) (VO0_18.writes (Elt F) VO0_18.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).1)

/-- Case C's pieces for output 19 tile its block (1 store of `S1x256`). -/
theorem cover0_C_19 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.1, y ∈ pc.1.set :=
  View.cover_of_tiledL _ S1x256.size (by sl_kernel_rfl) y

/-- What case C leaves in output 19's staging buffer: its pieces read back over junk. -/
def out0_C_19 : Vec F S1x256 .f32 :=
  VO0_19.read (Elt F) (VO0_19.writes (Elt F) VO0_19.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.1)

/-- Case C's pieces for output 20 tile its block (1 store of `S1x256`). -/
theorem cover0_C_20 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.1, y ∈ pc.1.set :=
  View.cover_of_tiledL _ S1x256.size (by sl_kernel_rfl) y

/-- What case C leaves in output 20's staging buffer: its pieces read back over junk. -/
def out0_C_20 : Vec F S1x256 .f32 :=
  VO0_20.read (Elt F) (VO0_20.writes (Elt F) VO0_20.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.1)

/-- Case C's pieces for output 21 tile its block (1 store of `S256x32`). -/
theorem cover0_C_21 (y : S256x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.1, y ∈ pc.1.set :=
  View.cover_of_tiledL _ S256x32.size (by sl_kernel_rfl) y

/-- What case C leaves in output 21's staging buffer: its pieces read back over junk. -/
def out0_C_21 : Vec F S256x32 .f32 :=
  VO0_21.read (Elt F) (VO0_21.writes (Elt F) VO0_21.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.1)

/-- Case C's pieces for output 22 tile its block (1 store of `S256x32`). -/
theorem cover0_C_22 (y : S256x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.1, y ∈ pc.1.set :=
  View.cover_of_tiledL _ S256x32.size (by sl_kernel_rfl) y

/-- What case C leaves in output 22's staging buffer: its pieces read back over junk. -/
def out0_C_22 : Vec F S256x32 .f32 :=
  VO0_22.read (Elt F) (VO0_22.writes (Elt F) VO0_22.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.1)

/-- Case C's pieces for output 23 tile its block (1 store of `S1024x4096`). -/
theorem cover0_C_23 (y : S1024x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.1, y ∈ pc.1.set :=
  View.cover_of_tiledL _ S1024x4096.size (by sl_kernel_rfl) y

/-- What case C leaves in output 23's staging buffer: its pieces read back over junk. -/
def out0_C_23 : Vec F S1024x4096 .f32 :=
  VO0_23.read (Elt F) (VO0_23.writes (Elt F) VO0_23.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.1)

/-- Case C's pieces for output 24 tile its block (1 store of `S1024x32`). -/
theorem cover0_C_24 (y : S1024x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.1, y ∈ pc.1.set :=
  View.cover_of_tiledL _ S1024x32.size (by sl_kernel_rfl) y

/-- What case C leaves in output 24's staging buffer: its pieces read back over junk. -/
def out0_C_24 : Vec F S1024x32 .bf16 :=
  VO0_24.read (Elt F) (VO0_24.writes (Elt F) VO0_24.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.1)

/-- Case C's pieces for output 25 tile its block (1 store of `S1024x32`). -/
theorem cover0_C_25 (y : S1024x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.1, y ∈ pc.1.set :=
  View.cover_of_tiledL _ S1024x32.size (by sl_kernel_rfl) y

/-- What case C leaves in output 25's staging buffer: its pieces read back over junk. -/
def out0_C_25 : Vec F S1024x32 .bf16 :=
  VO0_25.read (Elt F) (VO0_25.writes (Elt F) VO0_25.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.1)

/-- Case C's pieces for scratch `arg27`, which the kernel carries between points, cover it: 1 piece of `S1024x32` tiling it. -/
theorem scover0_C_0 (y : S1024x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.1, y ∈ pc.1.set :=
  View.cover_of_tiledL _ S1024x32.size (by sl_kernel_rfl) y

/-- What case C leaves in scratch `arg27`: its pieces read back over junk. -/
def sout0_C_0 : Vec F S1024x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.1)

/-- Case C's pieces for scratch `arg28`, which the kernel carries between points, cover it: 1 piece of `S1024x32` tiling it. -/
theorem scover0_C_1 (y : S1024x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.2.1, y ∈ pc.1.set :=
  View.cover_of_tiledL _ S1024x32.size (by sl_kernel_rfl) y

/-- What case C leaves in scratch `arg28`: its pieces read back over junk. -/
def sout0_C_1 : Vec F S1024x32 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xo23 xs0 xs1).2.2.2.2.2.2.2.2.2.1)

end CaseC

/-! ## What the outputs hold after each point -/

/-- What a point `t` of case A leaves in the outputs and in the two accumulators. -/
def pt0_A (c : Dev nD) (t : Fin cfg0.N) (hc0 : cond0_0 (grid0.coords t)) (hc1 : ¬cond0_1 (grid0.coords t)) :
    Vec F S32x256 .f32 × Vec F S1x256 .f32 × Vec F S1x256 .f32 × Vec F S256x32 .f32 × Vec F S256x32 .f32 × Vec F S1024x4096 .f32 × Vec F S1024x32 .bf16 × Vec F S1024x32 .bf16 × Vec F S1024x32 .f32 × Vec F S1024x32 .f32 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-- What a point `t` of case B leaves in the outputs and in the two accumulators, over what it finds in output 23 (`xo23`) and in the accumulators (`xs0`, `xs1`). -/
def pt0_B (c : Dev nD) (t : Fin cfg0.N) (hc0 : ¬cond0_0 (grid0.coords t)) (hc1 : ¬cond0_1 (grid0.coords t)) (xo23 : Vec F S1024x4096 .f32) (xs0 xs1 : Vec F S1024x32 .f32) :
    Vec F S32x256 .f32 × Vec F S1x256 .f32 × Vec F S1x256 .f32 × Vec F S256x32 .f32 × Vec F S256x32 .f32 × Vec F S1024x4096 .f32 × Vec F S1024x32 .bf16 × Vec F S1024x32 .bf16 × Vec F S1024x32 .f32 × Vec F S1024x32 .f32 :=
  (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1)

/-- What a point `t` of case C leaves in the outputs and in the two accumulators, over what it finds in output 23 (`xo23`) and in the accumulators (`xs0`, `xs1`). -/
def pt0_C (c : Dev nD) (t : Fin cfg0.N) (hc0 : ¬cond0_0 (grid0.coords t)) (hc1 : cond0_1 (grid0.coords t)) (xo23 : Vec F S1024x4096 .f32) (xs0 xs1 : Vec F S1024x32 .f32) :
    Vec F S32x256 .f32 × Vec F S1x256 .f32 × Vec F S1x256 .f32 × Vec F S256x32 .f32 × Vec F S256x32 .f32 × Vec F S1024x4096 .f32 × Vec F S1024x32 .bf16 × Vec F S1024x32 .bf16 × Vec F S1024x32 .f32 × Vec F S1024x32 .f32 :=
  (out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_C_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_C_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   out0_C_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xo23 xs0 xs1)

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). -/
def outsAt0 (c : Dev nD) : (n : ℕ) → n < cfg0.N → Vec F S32x256 .f32 × Vec F S1x256 .f32 × Vec F S1x256 .f32 × Vec F S256x32 .f32 × Vec F S256x32 .f32 × Vec F S1024x4096 .f32 × Vec F S1024x32 .bf16 × Vec F S1024x32 .bf16 × Vec F S1024x32 .f32 × Vec F S1024x32 .f32
  | 0, hn => pt0_A m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 43 = 0 then
      if h1 : (n + 1) % 43 = 42 then
        False.elim (by have hN : n + 1 < 43 := lt_of_lt_of_eq hn (show cfg0.N = 43 from N_0); omega)
      else
        pt0_A m c ⟨n + 1, hn⟩ ((hcond0_0 ⟨n + 1, hn⟩).mpr h0) (fun h => h1 ((hcond0_1 ⟨n + 1, hn⟩).mp h))
    else
      if h1 : (n + 1) % 43 = 42 then
        pt0_C m c ⟨n + 1, hn⟩ (fun h => h0 ((hcond0_0 ⟨n + 1, hn⟩).mp h)) ((hcond0_1 ⟨n + 1, hn⟩).mpr h1) (outsAt0 c n (Nat.lt_of_succ_lt hn)).2.2.2.2.2.1 (outsAt0 c n (Nat.lt_of_succ_lt hn)).2.2.2.2.2.2.2.2.1 (outsAt0 c n (Nat.lt_of_succ_lt hn)).2.2.2.2.2.2.2.2.2
      else
        pt0_B m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.2.1 (outsAt0 c n (Nat.lt_of_succ_lt hn)).2.2.2.2.2.2.2.2.1 (outsAt0 c n (Nat.lt_of_succ_lt hn)).2.2.2.2.2.2.2.2.2

/-- `outsAt0` at a point of case A: that case's contents. -/
theorem outsAt0_A (c : Dev nD) (t : Fin cfg0.N) (h0 : t.val % 43 = 0) (h1 : ¬t.val % 43 = 42) :
    outsAt0 m c t.val t.isLt = pt0_A m c t ((hcond0_0 t).mpr h0) (fun h => h1 ((hcond0_1 t).mp h)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 43 = 0) (h1 : ¬t.val % 43 = 42) :
    outsAt0 m c t.val t.isLt = pt0_B m c t (fun h => h0 ((hcond0_0 t).mp h)) (fun h => h1 ((hcond0_1 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 43 = 0) (h1 : t.val % 43 = 42) :
    outsAt0 m c t.val t.isLt = pt0_C m c t (fun h => h0 ((hcond0_0 t).mp h)) ((hcond0_1 t).mpr h1) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 := by
  obtain ⟨n, hn⟩ := t
  cases n with
  | zero => exact (by exfalso; (try dsimp only at h0); exact absurd (Nat.zero_mod _) h0)
  | succ n => exact (dif_neg h0).trans ((dif_pos h1).trans rfl)

end Cert.BwdIdeal.Gen

end
-- ==== Proof.BwdIdealDats.lean ====
/- The backward kernel idealized: the pipeline's proof data, and the body's pre- and postcondition at a grid point. -/
module

public import proofs.«01_k».proof.Proof.BwdIdealOuts
public import Idealize.ShloMosaic.Lib.Claim

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨20, _⟩ => (outsAt0 m c t.val t.isLt).2.2.1
    | ⟨21, _⟩ => (outsAt0 m c t.val t.isLt).2.2.2.1
    | ⟨22, _⟩ => (outsAt0 m c t.val t.isLt).2.2.2.2.1
    | ⟨23, _⟩ => (outsAt0 m c t.val t.isLt).2.2.2.2.2.1
    | ⟨24, _⟩ => (outsAt0 m c t.val t.isLt).2.2.2.2.2.2.1
    | ⟨25, _⟩ => (outsAt0 m c t.val t.isLt).2.2.2.2.2.2.2.1
    | ⟨_ + 26, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t.val t.isLt).1 := by dsimp only [dats]
theorem after0_19 (c : Dev nD) (t : Fin cfg0.N) : (dats m 0 c).after 19 t = (outsAt0 m c t.val t.isLt).2.1 := by dsimp only [dats]
theorem after0_20 (c : Dev nD) (t : Fin cfg0.N) : (dats m 0 c).after 20 t = (outsAt0 m c t.val t.isLt).2.2.1 := by dsimp only [dats]
theorem after0_21 (c : Dev nD) (t : Fin cfg0.N) : (dats m 0 c).after 21 t = (outsAt0 m c t.val t.isLt).2.2.2.1 := by dsimp only [dats]
theorem after0_22 (c : Dev nD) (t : Fin cfg0.N) : (dats m 0 c).after 22 t = (outsAt0 m c t.val t.isLt).2.2.2.2.1 := by dsimp only [dats]
theorem after0_23 (c : Dev nD) (t : Fin cfg0.N) : (dats m 0 c).after 23 t = (outsAt0 m c t.val t.isLt).2.2.2.2.2.1 := by dsimp only [dats]
theorem after0_24 (c : Dev nD) (t : Fin cfg0.N) : (dats m 0 c).after 24 t = (outsAt0 m c t.val t.isLt).2.2.2.2.2.2.1 := by dsimp only [dats]
theorem after0_25 (c : Dev nD) (t : Fin cfg0.N) : (dats m 0 c).after 25 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
/-- At a point of case B output 23's current staging buffer holds what the body left at the point before: the point is
    not the first, the buffer was not written back between (`flush0_23`), the window is live and uncut. -/
theorem before0_23_B (c : Dev nD) (t : Fin cfg0.N) (h0 : ¬t.val % 43 = 0) (h1 : ¬t.val % 43 = 42) (d) :
    (dats m 0 c).before 23 t d = (outsAt0 m c (t.val - 1) (Nat.lt_of_le_of_lt (Nat.sub_le _ _) t.isLt)).2.2.2.2.2.1 := by
  have hN : t.val < 43 := lt_of_lt_of_eq t.isLt (show cfg0.N = 43 from N_0)
  rw [Dat.before_out_kept _ 23 rfl t (by omega) (Bool.eq_false_iff.mpr fun h => by have := (flush0_23 _).mp h; dsimp only at this; omega)
    (fun _ => rfl) (fun _ _ => rfl)]
  dsimp only [dats]
/-- At a point of case C output 23's current staging buffer holds what the body left at the point before: the point is
    not the first, the buffer was not written back between (`flush0_23`), the window is live and uncut. -/
theorem before0_23_C (c : Dev nD) (t : Fin cfg0.N) (h0 : ¬t.val % 43 = 0) (h1 : t.val % 43 = 42) (d) :
    (dats m 0 c).before 23 t d = (outsAt0 m c (t.val - 1) (Nat.lt_of_le_of_lt (Nat.sub_le _ _) t.isLt)).2.2.2.2.2.1 := by
  have hN : t.val < 43 := lt_of_lt_of_eq t.isLt (show cfg0.N = 43 from N_0)
  rw [Dat.before_out_kept _ 23 rfl t (by omega) (Bool.eq_false_iff.mpr fun h => by have := (flush0_23 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

end Cert.BwdIdeal.Gen

end
-- ==== Proof.BwdIdealBody.lean ====
/- The backward kernel idealized: the triple of its body at any grid point. -/
module

public import proofs.«01_k».proof.Proof.BwdIdealDats
public import Idealize.ShloMosaic.Lib.Claim

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 33600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl]
  rw [show (dats m 0 c).Φ t.succ = PhiS m c (t.val + 1) t.isLt from rfl, PhiS_succ]
  have hN : t.val < 43 := lt_of_lt_of_eq t.isLt (show cfg0.N = 43 from N_0)
  by_cases h0 : t.val % 43 = 0
  · by_cases h1 : t.val % 43 = 42
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [Dat.leavesExact_idle (dats m 0 c) 24 t (idleAt0_24_A t ((hcond0_0 t).mpr h0) (fun h => h1 ((hcond0_1 t).mp h))) (noFlush0_24_A t ((hcond0_0 t).mpr h0) (fun h => h1 ((hcond0_1 t).mp h)))]
      rw [Dat.leavesExact_idle (dats m 0 c) 25 t (idleAt0_25_A t ((hcond0_0 t).mpr h0) (fun h => h1 ((hcond0_1 t).mp h))) (noFlush0_25_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold pt0_A; (try dsimp only)
        unfold out0_A_18 out0_A_19 out0_A_20 out0_A_21 out0_A_22 out0_A_23 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexact H24
        isplitl [H25]; · iexact H25
        isplitl [HS0]; · iexact HS0
        isplitl [HS1]; · iexact HS1
        iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, H24, H25, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]
        · unfold owns; iexists _; isplitr
          swap; · iexact H18
          ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]
        · unfold owns; iexists _; isplitr
          swap; · iexact H23
          ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H24]; · iexists _; iexact H24
        iexists _; iexact H25
      · exfalso; have hN : t.val < 43 := lt_of_lt_of_eq t.isLt (show cfg0.N = 43 from N_0); omega
  · by_cases h1 : t.val % 43 = 42
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24_C t (fun h => h0 ((hcond0_0 t).mp h)) ((hcond0_1 t).mpr h1)], after0_24]
      rw [show (dats m 0 c).leavesExact 25 t = owns (c : Thread nD τ) (ms0_25 t) fullShare ((dats m 0 c).after 25 t) from by
      unfold Dat.leavesExact; rw [liveAt0_25_C t (fun h => h0 ((hcond0_0 t).mp h)) ((hcond0_1 t).mpr h1)], after0_25]
      by_cases hz : t.val = 0
      · exfalso; have hN : t.val < 43 := lt_of_lt_of_eq t.isLt (show cfg0.N = 43 from N_0); omega
      · rw [PhiS_castSucc m c t, PhiS_pos m c _ _ hz]
        rw [outsAt0_C m c t h0 h1]
        simp only [before0_23_C m c t h0 h1]
        unfold pt0_C; (try dsimp only)
        unfold out0_C_18 out0_C_19 out0_C_20 out0_C_21 out0_C_22 out0_C_23 out0_C_24 out0_C_25 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexact H23
        isplitl [H24]; · iexists _; iexact H24
        isplitl [H25]; · iexists _; iexact H25
        isplitl [HS0]; · iexact HS0
        isplitl [HS1]; · iexact HS1
        iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]
        · unfold owns; iexists _; isplitr
          swap; · iexact H18
          ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]
        · unfold owns; iexists _; isplitr
          swap; · iexact H23
          ipureintro; exact View.read_writes_of_cover _ _ _ _ _ (cover0_C_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H24]
        · unfold owns; iexists _; isplitr
          swap; · iexact H24
          ipureintro; exact View.read_writes_of_cover _ _ _ _ _ (cover0_C_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H25
        ipureintro; exact View.read_writes_of_cover _ _ _ _ _ (cover0_C_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [Dat.leavesExact_idle (dats m 0 c) 24 t (idleAt0_24_B t (fun h => h0 ((hcond0_0 t).mp h)) (fun h => h1 ((hcond0_1 t).mp h))) (noFlush0_24_B t (fun h => h0 ((hcond0_0 t).mp h)) (fun h => h1 ((hcond0_1 t).mp h)))]
      rw [Dat.leavesExact_idle (dats m 0 c) 25 t (idleAt0_25_B t (fun h => h0 ((hcond0_0 t).mp h)) (fun h => h1 ((hcond0_1 t).mp h))) (noFlush0_25_B t (fun h => h0 ((hcond0_0 t).mp h)) (fun h => h1 ((hcond0_1 t).mp h)))]
      by_cases hz : t.val = 0
      · exfalso; have hN : t.val < 43 := lt_of_lt_of_eq t.isLt (show cfg0.N = 43 from N_0); omega
      · rw [PhiS_castSucc m c t, PhiS_pos m c _ _ hz]
        rw [outsAt0_B m c t h0 h1]
        simp only [before0_23_B m c t h0 h1]
        unfold pt0_B; (try dsimp only)
        unfold out0_B_18 out0_B_19 out0_B_20 out0_B_21 out0_B_22 out0_B_23 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _).2.2.2.2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexact H23
        isplitl [H24]; · iexact H24
        isplitl [H25]; · iexact H25
        isplitl [HS0]; · iexact HS0
        isplitl [HS1]; · iexact HS1
        iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, H24, H25, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]
        · unfold owns; iexists _; isplitr
          swap; · iexact H18
          ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]
        · unfold owns; iexists _; isplitr
          swap; · iexact H23
          ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H24]; · iexists _; iexact H24
        iexists _; iexact H25

end Cert.BwdIdeal.Gen

end
-- ==== Proof.BwdIdealFrame.lean ====
/- The backward kernel idealized: the run of the whole program and its frame. -/
module

public import proofs.«01_k».proof.Proof.BwdIdealBody
public import Idealize.ShloMosaic.Lib.Claim

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 43 := N_0; omega)

/-! ## The run and the frame -/

-- `θ_run_frame_track`'s implicit arguments are found by unifying its conclusion with this one, which takes unfolding plain
-- definitions in a metavariable's type
set_option backward.isDefEq.respectTransparency.types false in
/-- `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- Every execution ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.BwdIdeal.Gen

end
-- ==== Proof.BwdIdealValue.lean ====
/- The run of the backward kernel idealized with every output array after the run named. -/
module

public import proofs.«01_k».proof.Proof.BwdIdealFrame
public import Idealize.ShloMosaic.Lib.Pipeline.Value

@[expose] public section

noncomputable section

namespace Cert.BwdIdeal.Value

open Cert.BwdIdeal Cert.BwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v4_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v4_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v4_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v4_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v4_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v4_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v4_6) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v4_7) = (dats m 0 c).arrAt 25 cfg0.N :=
  (h c).1 25

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: input window 15 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: input window 17 stages it and never writes it back. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))

/-- The frame run with each output array after the run named as `(dats m 0 c).arrAt w N`,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 18 cfg0.N
      ∧ r.2.mem ((c : Thread nD τ).loc main_v4_1) = (dats m 0 c).arrAt 19 cfg0.N
      ∧ r.2.mem ((c : Thread nD τ).loc main_v4_2) = (dats m 0 c).arrAt 20 cfg0.N
      ∧ r.2.mem ((c : Thread nD τ).loc main_v4_3) = (dats m 0 c).arrAt 21 cfg0.N
      ∧ r.2.mem ((c : Thread nD τ).loc main_v4_4) = (dats m 0 c).arrAt 22 cfg0.N
      ∧ r.2.mem ((c : Thread nD τ).loc main_v4_5) = (dats m 0 c).arrAt 23 cfg0.N
      ∧ r.2.mem ((c : Thread nD τ).loc main_v4_6) = (dats m 0 c).arrAt 24 cfg0.N
      ∧ r.2.mem ((c : Thread nD τ).loc main_v4_7) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post18 m r h c,
      post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.BwdIdeal.Value

end
-- ==== Proof.BwdPure.lean ====
module

public import proofs.«01_k».proof.Proof.Gen.BwdIdeal.Skeleton
public import proofs.«01_k».proof.Proof.Gen.BwdRefIdeal.Read
public import Idealize.ShloMosaic.Lib.Pointwise

@[expose] public section

set_option maxRecDepth 16384

noncomputable section

open Idealize.ShloMosaic Idealize.ShloMosaic.TcCoe Idealize.SL.Sem

/-! # The backward tile, read at an index

One point of the grid handles the tile of 256 hidden columns that starts at column `T * 256`. Every
value the tile computes is the reference's value at the same row and at column `T * 256 + q`. The
lemmas here are stated over the blocks the tile loads and over the whole arrays, with one hypothesis
per block that says which part of its array it holds. -/

namespace Cert.BwdIdeal.Pure

open Cert.BwdIdeal Cert.BwdIdeal.Gen Cert.BwdRefIdeal.Read

/-- Hidden column `q` of tile `T`. -/
def col (T : Fin 43) (q : Fin 256) : Fin 11008 := ⟨T.val * 256 + q.val, by omega⟩

/-- A block of 256 columns, with `n` rows, is tile `T` of an array of 11008 columns. -/
def ColTile {α : Type} {n : ℕ} (T : Fin 43) (b : (⟨2, ![n, 256]⟩ : Shape).Idx → α) (x : (⟨2, ![n, 11008]⟩ : Shape).Idx → α) : Prop :=
  ∀ (r : Fin n) (q : Fin 256), b (ix2 r q) = x (ix2 r (col T q))

/-- A block of 256 rows, with `n` columns, is tile `T` of an array of 11008 rows. -/
def RowTile {α : Type} {n : ℕ} (T : Fin 43) (b : (⟨2, ![256, n]⟩ : Shape).Idx → α) (x : (⟨2, ![11008, n]⟩ : Shape).Idx → α) : Prop :=
  ∀ (q : Fin 256) (r : Fin n), b (ix2 q r) = x (ix2 (col T q) r)

/-- A row block of 256 entries is tile `T` of a vector of 11008 entries. -/
def VecTile {α : Type} (T : Fin 43) (b : (⟨2, ![1, 256]⟩ : Shape).Idx → α) (x : (⟨1, ![11008]⟩ : Shape).Idx → α) : Prop :=
  ∀ q : Fin 256, b (ix2 0 q) = x (ix1 (col T q))

variable (x0 : FVec Ideal Cert.BwdRefIdeal.S1024x4096 .bf16)
variable (x1 : FVec Ideal Cert.BwdRefIdeal.S1024x32 .bf16)
variable (x2 : FVec Ideal Cert.BwdRefIdeal.S1024x32 .bf16)
variable (x3 : FVec Ideal Cert.BwdRefIdeal.S1024x32 .bf16)
variable (x4 : FVec Ideal Cert.BwdRefIdeal.S32x11008 .bf16)
variable (x5 : Vec Ideal Cert.BwdRefIdeal.S4096x11008 .i8)
variable (x6 : FVec Ideal Cert.BwdRefIdeal.S1024x11008 .f32)
variable (x7 : FVec Ideal Cert.BwdRefIdeal.S1024x11008 .f32)
variable (x8 : Vec Ideal Cert.BwdRefIdeal.S11008x4096 .i8)
variable (x9 : FVec Ideal Cert.BwdRefIdeal.S11008 .f32)
variable (x10 : FVec Ideal Cert.BwdRefIdeal.S11008x32 .bf16)
variable (x11 : FVec Ideal Cert.BwdRefIdeal.S11008 .f32)
variable (x12 : FVec Ideal Cert.BwdRefIdeal.S1x11008 .f32)
variable (x13 : Vec Ideal Cert.BwdRefIdeal.S11008x4096 .i8)
variable (x14 : FVec Ideal Cert.BwdRefIdeal.S11008 .f32)
variable (x15 : FVec Ideal Cert.BwdRefIdeal.S11008x32 .bf16)
variable (x16 : FVec Ideal Cert.BwdRefIdeal.S11008 .f32)
variable (x17 : FVec Ideal Cert.BwdRefIdeal.S1x11008 .f32)
variable (T : Fin 43)

/-- An 8-bit code has the same real value whether it is read directly or widened to 32 bits first. -/
theorem code_val (φ φ' : FTy) (b : BitVec 8) : @Eq EReal (FloatOps.sitofp (F := Ideal) φ (b.signExtend 32)) (FloatOps.sitofp (F := Ideal) φ' b) := by
  show (((b.signExtend 32).toInt : ℝ) : EReal) = ((b.toInt : ℝ) : EReal)
  rw [BitVec.toInt_signExtend_of_le (by decide)]

/-- The gate coefficient of the tile is the reference's magnitude over norm. -/
theorem coef_gate (b11 b12 : FVec Ideal S1x256 .f32) (h11 : VecTile T b11 x11) (h12 : ColTile T b12 x12) :
    VecTile T (k0_pay8 (F := Ideal) b11 b12) (val_main_v10 (F := Ideal) x11 x12) := by
  intro q
  pointwise [k0_pay8, val_main_v10, val_main_v9]
  rw [h11 q, h12 0 q]

/-- The up coefficient of the tile. -/
theorem coef_up (b16 b17 : FVec Ideal S1x256 .f32) (h16 : VecTile T b16 x16) (h17 : ColTile T b17 x17) :
    VecTile T (k0_pay9 (F := Ideal) b16 b17) (val_main_v12 (F := Ideal) x16 x17) := by
  intro q
  pointwise [k0_pay9, val_main_v12, val_main_v11]
  rw [h16 q, h17 0 q]

/-- The gate branch of the tile. -/
theorem y_gate (b6 : FVec Ideal S1024x256 .f32) (b11 b12 : FVec Ideal S1x256 .f32) (h6 : ColTile T b6 x6) (h11 : VecTile T b11 x11) (h12 : ColTile T b12 x12) :
    ColTile T (k0_pay10 (F := Ideal) b6 b11 b12) (val_main_v15 (F := Ideal) x6 x11 x12) := by
  intro r q
  have h := coef_gate x11 x12 T b11 b12 h11 h12 q
  pointwise [k0_pay10, val_main_v15, val_main_v14, val_main_v13]
  rw [h, h6 r q]

/-- The up branch of the tile. -/
theorem y_up (b7 : FVec Ideal S1024x256 .f32) (b16 b17 : FVec Ideal S1x256 .f32) (h7 : ColTile T b7 x7) (h16 : VecTile T b16 x16) (h17 : ColTile T b17 x17) :
    ColTile T (k0_pay11 (F := Ideal) b7 b16 b17) (val_main_v18 (F := Ideal) x7 x16 x17) := by
  intro r q
  have h := coef_up x16 x17 T b16 b17 h16 h17 q
  pointwise [k0_pay11, val_main_v18, val_main_v17, val_main_v16]
  rw [h, h7 r q]

/-- The sigmoid of the gate branch: the reference writes it as one over one plus the exponential of the negative. -/
theorem sig (b6 : FVec Ideal S1024x256 .f32) (b11 b12 : FVec Ideal S1x256 .f32) (h6 : ColTile T b6 x6) (h11 : VecTile T b11 x11) (h12 : ColTile T b12 x12) :
    ColTile T (k0_pay12 (F := Ideal) b6 b11 b12) (val_main_v24 (F := Ideal) x6 x11 x12) := by
  intro r q
  have h := y_gate x6 x11 x12 T b6 b11 b12 h6 h11 h12 r q
  pointwise [k0_pay12, val_main_v24, val_main_v23, val_main_v22, val_main_v21, val_main_v20, val_main_v19, val_main_cst, val_main_cst_0]
  rw [h]
  rfl

/-- The gradient of the down adapter's first factor, one tile of columns. -/
theorem da_down (b1 : FVec Ideal S1024x32 .bf16) (b6 b7 : FVec Ideal S1024x256 .f32) (b11 b12 b16 b17 : FVec Ideal S1x256 .f32) (h1 : b1 = x1) (h6 : ColTile T b6 x6) (h7 : ColTile T b7 x7)
    (h11 : VecTile T b11 x11) (h12 : ColTile T b12 x12) (h16 : VecTile T b16 x16) (h17 : ColTile T b17 x17) :
    ColTile T (k0_pay13 (F := Ideal) b6 b7 b11 b12 b16 b17 b1) (val_main_v28 (F := Ideal) x1 x6 x7 x11 x12 x16 x17) := by
  intro r q
  have hy := fun r => y_gate x6 x11 x12 T b6 b11 b12 h6 h11 h12 r q
  have hu := fun r => y_up x7 x16 x17 T b7 b16 b17 h7 h16 h17 r q
  have hs := fun r => sig x6 x11 x12 T b6 b11 b12 h6 h11 h12 r q
  subst h1
  pointwise [k0_pay13, val_main_v28, val_main_v27, val_main_v26, val_main_v25]
  refine Finset.sum_congr rfl fun k _ => ?_
  rw [hy k, hu k, hs k]

/-- The gradient of the activation: the code product plus the adapter product. -/
theorem dact (b0 : FVec Ideal S1024x4096 .bf16) (b1 : FVec Ideal S1024x32 .bf16) (b4 : FVec Ideal S32x256 .bf16) (b5 : Vec Ideal S4096x256 .i8) (h0 : b0 = x0) (h1 : b1 = x1)
    (h4 : ColTile T b4 x4) (h5 : ColTile T b5 x5) :
    ColTile T (k0_pay7 (F := Ideal) b0 b5 b1 b4) (val_main_v31 (F := Ideal) x0 x1 x4 x5) := by
  intro r q
  subst h0 h1
  pointwise [k0_pay7, val_main_v31, val_main_v30, val_main_v29, val_main_v8, val_main_v7, val_main_v6]
  refine congrArg₂ (· + ·) (Finset.sum_congr rfl fun k _ => ?_) (Finset.sum_congr rfl fun k _ => ?_)
  · rw [h5 k q]; exact congrArg _ (code_val _ _ _).symm
  · rw [h4 k q]

/-- The gradient of the up branch. -/
theorem g_up (d y s : FVec Ideal S1024x256 .f32) (hd : ColTile T d (val_main_v31 (F := Ideal) x0 x1 x4 x5)) (hy : ColTile T y (val_main_v15 (F := Ideal) x6 x11 x12)) (hs : ColTile T s (val_main_v24 (F := Ideal) x6 x11 x12)) :
    ColTile T (k0_pay14 (F := Ideal) d y s) (val_main_v33 (F := Ideal) x0 x1 x4 x5 x6 x11 x12) := by
  intro r q
  pointwise [k0_pay14, val_main_v33, val_main_v32]
  rw [hd r q, hy r q, hs r q]

/-- The gradient of the gate branch. -/
theorem g_gate (d y u s : FVec Ideal S1024x256 .f32) (hd : ColTile T d (val_main_v31 (F := Ideal) x0 x1 x4 x5)) (hy : ColTile T y (val_main_v15 (F := Ideal) x6 x11 x12)) (hu : ColTile T u (val_main_v18 (F := Ideal) x7 x16 x17)) (hs : ColTile T s (val_main_v24 (F := Ideal) x6 x11 x12)) :
    ColTile T (k0_pay15 (F := Ideal) d y u s) (val_main_v41 (F := Ideal) x0 x1 x4 x5 x6 x7 x11 x12 x16 x17) := by
  intro r q
  pointwise [k0_pay15, val_main_v41, val_main_v40, val_main_v39, val_main_v38, val_main_v37, val_main_v36, val_main_v35, val_main_v34, val_main_cst_1, val_main_cst_2]
  rw [hd r q, hy r q, hs r q, hu r q]

/-- The gradient of the gate magnitude, one tile. -/
theorem dmag_gate (d y u s : FVec Ideal S1024x256 .f32) (hd : ColTile T d (val_main_v31 (F := Ideal) x0 x1 x4 x5)) (hy : ColTile T y (val_main_v15 (F := Ideal) x6 x11 x12)) (hu : ColTile T u (val_main_v18 (F := Ideal) x7 x16 x17)) (hs : ColTile T s (val_main_v24 (F := Ideal) x6 x11 x12))
    (b6 : FVec Ideal S1024x256 .f32) (b12 : FVec Ideal S1x256 .f32) (h6 : ColTile T b6 x6) (h12 : ColTile T b12 x12) :
    ColTile T (k0_pay16 (F := Ideal) d b6 y u s b12) (val_main_v82 (F := Ideal) x0 x1 x4 x5 x6 x7 x11 x12 x16 x17) := by
  intro r q
  have hr : r = 0 := Subsingleton.elim _ _
  subst hr
  have h := fun r => g_gate x0 x1 x4 x5 x6 x7 x11 x12 x16 x17 T d y u s hd hy hu hs r q
  pointwise [k0_pay16, val_main_v82, val_main_v45, val_main_v44, val_main_v43, val_main_v42, val_main_cst_3]
  rw [h12 0 q]
  refine congrArg₂ Ideal.div (Finset.sum_congr rfl fun k _ => ?_) rfl
  rw [h k, h6 k q]

/-- The gradient of the up magnitude, one tile. -/
theorem dmag_up (g : FVec Ideal S1024x256 .f32) (hg : ColTile T g (val_main_v33 (F := Ideal) x0 x1 x4 x5 x6 x11 x12))
    (b7 : FVec Ideal S1024x256 .f32) (b17 : FVec Ideal S1x256 .f32) (h7 : ColTile T b7 x7) (h17 : ColTile T b17 x17) :
    ColTile T (k0_pay22 (F := Ideal) b7 g b17) (val_main_v83 (F := Ideal) x0 x1 x4 x5 x6 x7 x11 x12 x17) := by
  intro r q
  have hr : r = 0 := Subsingleton.elim _ _
  subst hr
  pointwise [k0_pay22, val_main_v83, val_main_v65, val_main_v64, val_main_v63, val_main_v62, val_main_cst_6]
  rw [h17 0 q]
  refine congrArg₂ Ideal.div (Finset.sum_congr rfl fun k _ => ?_) rfl
  rw [hg k q, h7 k q]

/-- The gate gradient times its coefficient. -/
theorem gc_gate (d y u s : FVec Ideal S1024x256 .f32) (hd : ColTile T d (val_main_v31 (F := Ideal) x0 x1 x4 x5)) (hy : ColTile T y (val_main_v15 (F := Ideal) x6 x11 x12)) (hu : ColTile T u (val_main_v18 (F := Ideal) x7 x16 x17)) (hs : ColTile T s (val_main_v24 (F := Ideal) x6 x11 x12))
    (e : FVec Ideal S1x256 .f32) (he : VecTile T e (val_main_v10 (F := Ideal) x11 x12)) :
    ColTile T (k0_pay17 (F := Ideal) d e y u s) (val_main_v48 (F := Ideal) x0 x1 x4 x5 x6 x7 x11 x12 x16 x17) := by
  intro r q
  have h := g_gate x0 x1 x4 x5 x6 x7 x11 x12 x16 x17 T d y u s hd hy hu hs r q
  pointwise [k0_pay17, val_main_v48, val_main_v47, val_main_v46]
  rw [h, he q]

/-- The up gradient times its coefficient. -/
theorem gc_up (g : FVec Ideal S1024x256 .f32) (hg : ColTile T g (val_main_v33 (F := Ideal) x0 x1 x4 x5 x6 x11 x12))
    (e : FVec Ideal S1x256 .f32) (he : VecTile T e (val_main_v12 (F := Ideal) x16 x17)) :
    ColTile T (k0_pay23 (F := Ideal) e g) (val_main_v68 (F := Ideal) x0 x1 x4 x5 x6 x11 x12 x16 x17) := by
  intro r q
  pointwise [k0_pay23, val_main_v68, val_main_v67, val_main_v66]
  rw [hg r q, he q]

/-- The gradient of the gate adapter's second factor, one tile of rows. The kernel multiplies in the transposed order. -/
theorem db_gate (d y u s : FVec Ideal S1024x256 .f32) (hd : ColTile T d (val_main_v31 (F := Ideal) x0 x1 x4 x5)) (hy : ColTile T y (val_main_v15 (F := Ideal) x6 x11 x12)) (hu : ColTile T u (val_main_v18 (F := Ideal) x7 x16 x17)) (hs : ColTile T s (val_main_v24 (F := Ideal) x6 x11 x12))
    (e : FVec Ideal S1x256 .f32) (he : VecTile T e (val_main_v10 (F := Ideal) x11 x12)) (b2 : FVec Ideal S1024x32 .bf16) (h2 : b2 = x2) :
    RowTile T (k0_pay19 (F := Ideal) d e y u s b2) (val_main_v56 (F := Ideal) x0 x1 x2 x4 x5 x6 x7 x11 x12 x16 x17) := by
  intro q r
  have h := fun r => gc_gate x0 x1 x4 x5 x6 x7 x11 x12 x16 x17 T d y u s hd hy hu hs e he r q
  subst h2
  pointwise [k0_pay19, k0_pay18, val_main_v56, val_main_v55, val_main_v54, val_main_v49, val_main_cst_4]
  refine congrArg₂ (· * ·) rfl (Finset.sum_congr rfl fun k _ => ?_)
  rw [h k, mul_comm]

/-- The gradient of the up adapter's second factor, one tile of rows. -/
theorem db_up (g : FVec Ideal S1024x256 .f32) (hg : ColTile T g (val_main_v33 (F := Ideal) x0 x1 x4 x5 x6 x11 x12))
    (e : FVec Ideal S1x256 .f32) (he : VecTile T e (val_main_v12 (F := Ideal) x16 x17)) (b3 : FVec Ideal S1024x32 .bf16) (h3 : b3 = x3) :
    RowTile T (k0_pay25 (F := Ideal) e g b3) (val_main_v76 (F := Ideal) x0 x1 x3 x4 x5 x6 x11 x12 x16 x17) := by
  intro q r
  have h := fun r => gc_up x0 x1 x4 x5 x6 x11 x12 x16 x17 T g hg e he r q
  subst h3
  pointwise [k0_pay25, k0_pay24, val_main_v76, val_main_v75, val_main_v74, val_main_v69, val_main_cst_7]
  refine congrArg₂ (· * ·) rfl (Finset.sum_congr rfl fun k _ => ?_)
  rw [h k, mul_comm]

/-- The gate gradient times coefficient and code scale. -/
theorem gw_gate (g : FVec Ideal S1024x256 .f32) (hg : ColTile T g (val_main_v48 (F := Ideal) x0 x1 x4 x5 x6 x7 x11 x12 x16 x17)) (b9 : FVec Ideal S1x256 .f32) (h9 : VecTile T b9 x9) :
    ColTile T (k0_pay21 (F := Ideal) g b9) (val_main_v53 (F := Ideal) x0 x1 x4 x5 x6 x7 x9 x11 x12 x16 x17) := by
  intro r q
  pointwise [k0_pay21, val_main_v53, val_main_v52, val_main_v51, val_main_v50]
  rw [hg r q, h9 q]

/-- The up gradient times coefficient and code scale. -/
theorem gw_up (g : FVec Ideal S1024x256 .f32) (hg : ColTile T g (val_main_v33 (F := Ideal) x0 x1 x4 x5 x6 x11 x12))
    (e : FVec Ideal S1x256 .f32) (he : VecTile T e (val_main_v12 (F := Ideal) x16 x17)) (b14 : FVec Ideal S1x256 .f32) (h14 : VecTile T b14 x14) :
    ColTile T (k0_pay27 (F := Ideal) e g b14) (val_main_v73 (F := Ideal) x0 x1 x4 x5 x6 x11 x12 x14 x16 x17) := by
  intro r q
  have h := gc_up x0 x1 x4 x5 x6 x11 x12 x16 x17 T g hg e he r q
  pointwise [k0_pay27, val_main_v73, val_main_v72, val_main_v71, val_main_v70]
  rw [h, h14 q]

/-- One step of the gate adapter accumulator adds the tile's part of the sum over the hidden columns. -/
theorem step_s_gate (d y u s : FVec Ideal S1024x256 .f32) (hd : ColTile T d (val_main_v31 (F := Ideal) x0 x1 x4 x5)) (hy : ColTile T y (val_main_v15 (F := Ideal) x6 x11 x12)) (hu : ColTile T u (val_main_v18 (F := Ideal) x7 x16 x17)) (hs : ColTile T s (val_main_v24 (F := Ideal) x6 x11 x12))
    (e : FVec Ideal S1x256 .f32) (he : VecTile T e (val_main_v10 (F := Ideal) x11 x12)) (b10 : FVec Ideal S256x32 .bf16) (h10 : RowTile T b10 x10) (a : FVec Ideal S1024x32 .f32) (r : Fin 1024) (j : Fin 32) :
    k0_pay20 (F := Ideal) d e y u s a b10 (ix2 r j) = a (ix2 r j) + ∑ q : Fin 256, (val_main_v49 (F := Ideal) x0 x1 x4 x5 x6 x7 x11 x12 x16 x17) (ix2 r (col T q)) * x10 (ix2 (col T q) j) := by
  have h := fun q => gc_gate x0 x1 x4 x5 x6 x7 x11 x12 x16 x17 T d y u s hd hy hu hs e he r q
  pointwise [k0_pay20, k0_pay18, val_main_v49]
  refine congrArg₂ (· + ·) rfl (Finset.sum_congr rfl fun k _ => ?_)
  rw [h k, h10 k j]

/-- One step of the up adapter accumulator. -/
theorem step_s_up (g : FVec Ideal S1024x256 .f32) (hg : ColTile T g (val_main_v33 (F := Ideal) x0 x1 x4 x5 x6 x11 x12))
    (e : FVec Ideal S1x256 .f32) (he : VecTile T e (val_main_v12 (F := Ideal) x16 x17)) (b15 : FVec Ideal S256x32 .bf16) (h15 : RowTile T b15 x15) (a : FVec Ideal S1024x32 .f32) (r : Fin 1024) (j : Fin 32) :
    k0_pay26 (F := Ideal) e g a b15 (ix2 r j) = a (ix2 r j) + ∑ q : Fin 256, (val_main_v69 (F := Ideal) x0 x1 x4 x5 x6 x11 x12 x16 x17) (ix2 r (col T q)) * x15 (ix2 (col T q) j) := by
  have h := fun q => gc_up x0 x1 x4 x5 x6 x11 x12 x16 x17 T g hg e he r q
  pointwise [k0_pay26, k0_pay24, val_main_v69]
  refine congrArg₂ (· + ·) rfl (Finset.sum_congr rfl fun k _ => ?_)
  rw [h k, h15 k j]

/-- One step of the hidden-state gradient accumulator: the tile's part of the two code products. -/
theorem step_dh (wg wu : FVec Ideal S1024x256 .bf16) (hwg : ColTile T wg (val_main_v53 (F := Ideal) x0 x1 x4 x5 x6 x7 x9 x11 x12 x16 x17)) (hwu : ColTile T wu (val_main_v73 (F := Ideal) x0 x1 x4 x5 x6 x11 x12 x14 x16 x17))
    (b8 b13 : Vec Ideal S256x4096 .i8) (h8 : RowTile T b8 x8) (h13 : RowTile T b13 x13) (a : FVec Ideal S1024x4096 .f32) (r : Fin 1024) (j : Fin 4096) :
    k0_pay1 (F := Ideal) wg wu (k0_pay28 (F := Ideal) a) b8 b13 (ix2 r j) = a (ix2 r j) + (∑ q : Fin 256, (val_main_v53 (F := Ideal) x0 x1 x4 x5 x6 x7 x9 x11 x12 x16 x17) (ix2 r (col T q)) * (val_main_v2 (F := Ideal) x8) (ix2 (col T q) j) + ∑ q : Fin 256, (val_main_v73 (F := Ideal) x0 x1 x4 x5 x6 x11 x12 x14 x16 x17) (ix2 r (col T q)) * (val_main_v5 (F := Ideal) x13) (ix2 (col T q) j)) := by
  pointwise [k0_pay1, k0_pay28, val_main_v2, val_main_v1, val_main_v0, val_main_v5, val_main_v4, val_main_v3]
  refine congrArg₂ (· + ·) rfl (congrArg₂ (· + ·) (Finset.sum_congr rfl fun k _ => ?_) (Finset.sum_congr rfl fun k _ => ?_))
  · rw [hwg r k, h8 k j]; exact congrArg _ (code_val _ _ _).symm
  · rw [hwu r k, h13 k j]; exact congrArg _ (code_val _ _ _).symm

/-- The finished gate adapter sum, scaled. -/
theorem last_gate (a : FVec Ideal S1024x32 .f32) (r : Fin 1024) (j : Fin 32) (h : a (ix2 r j) = val_main_v57 (F := Ideal) x0 x1 x4 x5 x6 x7 x10 x11 x12 x16 x17 (ix2 r j)) :
    k0_pay2 (F := Ideal) a (ix2 r j) = val_main_v60 (F := Ideal) x0 x1 x4 x5 x6 x7 x10 x11 x12 x16 x17 (ix2 r j) := by
  pointwise [k0_pay2, val_main_v60, val_main_v59, val_main_v58, val_main_cst_5]
  rw [h]

/-- The finished up adapter sum, scaled. -/
theorem last_up (a : FVec Ideal S1024x32 .f32) (r : Fin 1024) (j : Fin 32) (h : a (ix2 r j) = val_main_v77 (F := Ideal) x0 x1 x4 x5 x6 x11 x12 x15 x16 x17 (ix2 r j)) :
    k0_pay3 (F := Ideal) a (ix2 r j) = val_main_v80 (F := Ideal) x0 x1 x4 x5 x6 x11 x12 x15 x16 x17 (ix2 r j) := by
  pointwise [k0_pay3, val_main_v80, val_main_v79, val_main_v78, val_main_cst_8]
  rw [h]

end Cert.BwdIdeal.Pure

end
-- ==== Proof.BwdFinal.lean ====
module

public import proofs.«01_k».proof.Proof.BwdPure
public import proofs.«01_k».proof.Proof.BwdIdealDats
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The backward pass: the arrays after the run

Each output array is the reference's array, as a function of the arguments. -/

namespace Cert.BwdIdeal.Final

open Cert.BwdIdeal Cert.BwdIdeal.Gen Cert.BwdRefIdeal.Read

variable (m : (ℓ : Loc nD τ sig) → Buf (Elt Ideal) ℓ)

/-- The block index of the first nine inputs at every point. -/
theorem idx_a : ∀ t : Fin cfg0.N, win0_0.index t = ![0, 0]
    ∧ win0_1.index t = ![0, 0]
    ∧ win0_2.index t = ![0, 0]
    ∧ win0_3.index t = ![0, 0]
    ∧ win0_4.index t = ![0, t.val]
    ∧ win0_5.index t = ![0, t.val]
    ∧ win0_6.index t = ![0, t.val]
    ∧ win0_7.index t = ![0, t.val]
    ∧ win0_8.index t = ![t.val, 0] :=
  (by decide +kernel : ∀ t : Fin grid0.N, _)

/-- The block index of the other inputs at every point. -/
theorem idx_b : ∀ t : Fin cfg0.N, win0_9.index t = ![0, t.val]
    ∧ win0_10.index t = ![t.val, 0]
    ∧ win0_11.index t = ![0, t.val]
    ∧ win0_12.index t = ![0, t.val]
    ∧ win0_13.index t = ![t.val, 0]
    ∧ win0_14.index t = ![0, t.val]
    ∧ win0_15.index t = ![t.val, 0]
    ∧ win0_16.index t = ![0, t.val]
    ∧ win0_17.index t = ![0, t.val] :=
  (by decide +kernel : ∀ t : Fin grid0.N, _)

/-- The block index of the outputs at every point. -/
theorem idx_c : ∀ t : Fin cfg0.N, win0_18.index t = ![0, t.val]
    ∧ win0_19.index t = ![0, t.val]
    ∧ win0_20.index t = ![0, t.val]
    ∧ win0_21.index t = ![t.val, 0]
    ∧ win0_22.index t = ![t.val, 0]
    ∧ win0_23.index t = ![0, 0]
    ∧ win0_24.index t = ![0, 0]
    ∧ win0_25.index t = ![0, 0] :=
  (by decide +kernel : ∀ t : Fin grid0.N, _)

/-- The block index of every window at every point. -/
theorem idx_val : ∀ t : Fin cfg0.N, win0_0.index t = ![0, 0]
    ∧ win0_1.index t = ![0, 0]
    ∧ win0_2.index t = ![0, 0]
    ∧ win0_3.index t = ![0, 0]
    ∧ win0_4.index t = ![0, t.val]
    ∧ win0_5.index t = ![0, t.val]
    ∧ win0_6.index t = ![0, t.val]
    ∧ win0_7.index t = ![0, t.val]
    ∧ win0_8.index t = ![t.val, 0]
    ∧ win0_9.index t = ![0, t.val]
    ∧ win0_10.index t = ![t.val, 0]
    ∧ win0_11.index t = ![0, t.val]
    ∧ win0_12.index t = ![0, t.val]
    ∧ win0_13.index t = ![t.val, 0]
    ∧ win0_14.index t = ![0, t.val]
    ∧ win0_15.index t = ![t.val, 0]
    ∧ win0_16.index t = ![0, t.val]
    ∧ win0_17.index t = ![0, t.val]
    ∧ win0_18.index t = ![0, t.val]
    ∧ win0_19.index t = ![0, t.val]
    ∧ win0_20.index t = ![0, t.val]
    ∧ win0_21.index t = ![t.val, 0]
    ∧ win0_22.index t = ![t.val, 0]
    ∧ win0_23.index t = ![0, 0]
    ∧ win0_24.index t = ![0, 0]
    ∧ win0_25.index t = ![0, 0] :=
  fun t => by simp only [idx_a t, idx_b t, idx_c t, and_self]

/-- The tile of hidden columns of a point of the grid. -/
def pt (t : Fin cfg0.N) : Fin 43 := ⟨t.val, lt_of_lt_of_eq t.isLt N_0⟩

/-- The last point of the grid. -/
def tl : Fin cfg0.N := ⟨42, lt_of_lt_of_eq (by decide) N_0.symm⟩

/-- An index of two coordinates is the pair of them. -/
theorem eq_ix2 {a b : ℕ} (y : (⟨2, ![a, b]⟩ : Shape).Idx) : ∃ (r : Fin a) (k : Fin b), y = ix2 r k :=
  ⟨y 0, y 1, funext fun d => by match d with | ⟨0, _⟩ => rfl | ⟨1, _⟩ => rfl⟩

/-! What the input blocks at a point hold: parts of the arguments. -/

theorem blk0 (c : Dev nD) (t : Fin cfg0.N) : (iblk m c 0 t) = (m ((c : Thread nD τ).loc main_arg0)) := by
  funext y
  blk_ext [iblk, V, idx_val t]

theorem blk1 (c : Dev nD) (t : Fin cfg0.N) : (iblk m c 1 t) = (m ((c : Thread nD τ).loc main_arg1)) := by
  funext y
  blk_ext [iblk, V, idx_val t]

theorem blk2 (c : Dev nD) (t : Fin cfg0.N) : (iblk m c 2 t) = (m ((c : Thread nD τ).loc main_arg2)) := by
  funext y
  blk_ext [iblk, V, idx_val t]

theorem blk3 (c : Dev nD) (t : Fin cfg0.N) : (iblk m c 3 t) = (m ((c : Thread nD τ).loc main_arg3)) := by
  funext y
  blk_ext [iblk, V, idx_val t]

theorem blk4 (c : Dev nD) (t : Fin cfg0.N) : Pure.ColTile (pt t) (iblk m c 4 t) (m ((c : Thread nD τ).loc main_arg4)) := by
  intro r k
  blk_ext [iblk, V, pt, Pure.col, idx_val t]

theorem blk5 (c : Dev nD) (t : Fin cfg0.N) : Pure.ColTile (pt t) (iblk m c 5 t) (m ((c : Thread nD τ).loc main_arg5)) := by
  intro r k
  blk_ext [iblk, V, pt, Pure.col, idx_val t]

theorem blk6 (c : Dev nD) (t : Fin cfg0.N) : Pure.ColTile (pt t) (iblk m c 6 t) (m ((c : Thread nD τ).loc main_arg6)) := by
  intro r k
  blk_ext [iblk, V, pt, Pure.col, idx_val t]

theorem blk7 (c : Dev nD) (t : Fin cfg0.N) : Pure.ColTile (pt t) (iblk m c 7 t) (m ((c : Thread nD τ).loc main_arg7)) := by
  intro r k
  blk_ext [iblk, V, pt, Pure.col, idx_val t]

theorem blk8 (c : Dev nD) (t : Fin cfg0.N) : Pure.RowTile (pt t) (iblk m c 8 t) (m ((c : Thread nD τ).loc main_arg8)) := by
  intro r k
  blk_ext [iblk, V, pt, Pure.col, idx_val t]

theorem blk9 (c : Dev nD) (t : Fin cfg0.N) : Pure.VecTile (pt t) (iblk m c 9 t) (m ((c : Thread nD τ).loc main_arg9)) := by
  intro k
  blk_simp [iblk, idx_val t]; entry_read
  pointwise
  blk_ext [pt, Pure.col, idx_val t]

theorem blk10 (c : Dev nD) (t : Fin cfg0.N) : Pure.RowTile (pt t) (iblk m c 10 t) (m ((c : Thread nD τ).loc main_arg10)) := by
  intro r k
  blk_ext [iblk, V, pt, Pure.col, idx_val t]

theorem blk11 (c : Dev nD) (t : Fin cfg0.N) : Pure.VecTile (pt t) (iblk m c 11 t) (m ((c : Thread nD τ).loc main_arg11)) := by
  intro k
  blk_simp [iblk, idx_val t]; entry_read
  pointwise
  blk_ext [pt, Pure.col, idx_val t]

theorem blk12 (c : Dev nD) (t : Fin cfg0.N) : Pure.ColTile (pt t) (iblk m c 12 t) (m ((c : Thread nD τ).loc main_arg12)) := by
  intro r k
  blk_ext [iblk, V, pt, Pure.col, idx_val t]

theorem blk13 (c : Dev nD) (t : Fin cfg0.N) : Pure.RowTile (pt t) (iblk m c 13 t) (m ((c : Thread nD τ).loc main_arg13)) := by
  intro r k
  blk_ext [iblk, V, pt, Pure.col, idx_val t]

theorem blk14 (c : Dev nD) (t : Fin cfg0.N) : Pure.VecTile (pt t) (iblk m c 14 t) (m ((c : Thread nD τ).loc main_arg14)) := by
  intro k
  blk_simp [iblk, idx_val t]; entry_read
  pointwise
  blk_ext [pt, Pure.col, idx_val t]

theorem blk15 (c : Dev nD) (t : Fin cfg0.N) : Pure.RowTile (pt t) (iblk m c 15 t) (m ((c : Thread nD τ).loc main_arg15)) := by
  intro r k
  blk_ext [iblk, V, pt, Pure.col, idx_val t]

theorem blk16 (c : Dev nD) (t : Fin cfg0.N) : Pure.VecTile (pt t) (iblk m c 16 t) (m ((c : Thread nD τ).loc main_arg16)) := by
  intro k
  blk_simp [iblk, idx_val t]; entry_read
  pointwise
  blk_ext [pt, Pure.col, idx_val t]

theorem blk17 (c : Dev nD) (t : Fin cfg0.N) : Pure.ColTile (pt t) (iblk m c 17 t) (m ((c : Thread nD τ).loc main_arg17)) := by
  intro r k
  blk_ext [iblk, V, pt, Pure.col, idx_val t]

/-- The gate coefficient of a point. -/
abbrev coefG (c : Dev nD) (t : Fin cfg0.N) : FVec Ideal S1x256 .f32 := k0_pay8 (F := Ideal) (iblk m c 11 t) (iblk m c 12 t)

/-- The up coefficient of a point. -/
abbrev coefU (c : Dev nD) (t : Fin cfg0.N) : FVec Ideal S1x256 .f32 := k0_pay9 (F := Ideal) (iblk m c 16 t) (iblk m c 17 t)

/-- The gate branch of a point. -/
abbrev yG (c : Dev nD) (t : Fin cfg0.N) : FVec Ideal S1024x256 .f32 := k0_pay10 (F := Ideal) (iblk m c 6 t) (iblk m c 11 t) (iblk m c 12 t)

/-- The up branch of a point. -/
abbrev yU (c : Dev nD) (t : Fin cfg0.N) : FVec Ideal S1024x256 .f32 := k0_pay11 (F := Ideal) (iblk m c 7 t) (iblk m c 16 t) (iblk m c 17 t)

/-- The sigmoid of the gate branch of a point. -/
abbrev sg (c : Dev nD) (t : Fin cfg0.N) : FVec Ideal S1024x256 .f32 := k0_pay12 (F := Ideal) (iblk m c 6 t) (iblk m c 11 t) (iblk m c 12 t)

/-- The gradient of the activation of a point. -/
abbrev da (c : Dev nD) (t : Fin cfg0.N) : FVec Ideal S1024x256 .f32 := k0_pay7 (F := Ideal) (iblk m c 0 t) (iblk m c 5 t) (iblk m c 1 t) (iblk m c 4 t)

/-- The gradient of the up branch of a point. -/
abbrev gU (c : Dev nD) (t : Fin cfg0.N) : FVec Ideal S1024x256 .f32 := k0_pay14 (F := Ideal) (da m c t) (yG m c t) (sg m c t)

theorem coefG_at (c : Dev nD) (t : Fin cfg0.N) : Pure.VecTile (pt t) (coefG m c t) (val_main_v10 (F := Ideal) (m ((c : Thread nD τ).loc main_arg11)) (m ((c : Thread nD τ).loc main_arg12))) :=
  Pure.coef_gate _ _ (pt t) _ _ (blk11 m c t) (blk12 m c t)

theorem coefU_at (c : Dev nD) (t : Fin cfg0.N) : Pure.VecTile (pt t) (coefU m c t) (val_main_v12 (F := Ideal) (m ((c : Thread nD τ).loc main_arg16)) (m ((c : Thread nD τ).loc main_arg17))) :=
  Pure.coef_up _ _ (pt t) _ _ (blk16 m c t) (blk17 m c t)

theorem yG_at (c : Dev nD) (t : Fin cfg0.N) : Pure.ColTile (pt t) (yG m c t) (val_main_v15 (F := Ideal) (m ((c : Thread nD τ).loc main_arg6)) (m ((c : Thread nD τ).loc main_arg11)) (m ((c : Thread nD τ).loc main_arg12))) :=
  Pure.y_gate _ _ _ (pt t) _ _ _ (blk6 m c t) (blk11 m c t) (blk12 m c t)

theorem yU_at (c : Dev nD) (t : Fin cfg0.N) : Pure.ColTile (pt t) (yU m c t) (val_main_v18 (F := Ideal) (m ((c : Thread nD τ).loc main_arg7)) (m ((c : Thread nD τ).loc main_arg16)) (m ((c : Thread nD τ).loc main_arg17))) :=
  Pure.y_up _ _ _ (pt t) _ _ _ (blk7 m c t) (blk16 m c t) (blk17 m c t)

theorem sg_at (c : Dev nD) (t : Fin cfg0.N) : Pure.ColTile (pt t) (sg m c t) (val_main_v24 (F := Ideal) (m ((c : Thread nD τ).loc main_arg6)) (m ((c : Thread nD τ).loc main_arg11)) (m ((c : Thread nD τ).loc main_arg12))) :=
  Pure.sig _ _ _ (pt t) _ _ _ (blk6 m c t) (blk11 m c t) (blk12 m c t)

theorem da_at (c : Dev nD) (t : Fin cfg0.N) : Pure.ColTile (pt t) (da m c t) (val_main_v31 (F := Ideal) (m ((c : Thread nD τ).loc main_arg0)) (m ((c : Thread nD τ).loc main_arg1)) (m ((c : Thread nD τ).loc main_arg4)) (m ((c : Thread nD τ).loc main_arg5))) :=
  Pure.dact _ _ _ _ (pt t) _ _ _ _ (blk0 m c t) (blk1 m c t) (blk4 m c t) (blk5 m c t)

theorem gU_at (c : Dev nD) (t : Fin cfg0.N) : Pure.ColTile (pt t) (gU m c t) (val_main_v33 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg11)) (m ((c : Thread nD τ).loc main_arg12))) :=
  Pure.g_up _ _ _ _ _ _ _ (pt t) _ _ _ (da_at m c t) (yG_at m c t) (sg_at m c t)

set_option maxHeartbeats 1000000 in
/-- Output 18 holds the gradient of the down adapter's first factor. -/
theorem final_18 (c : Dev nD) : (dats m 0 c).arrAt 18 (cfgs 0).N = (val_main_v28 (F := Ideal) (m ((c : Thread nD τ).loc main_arg1)) (m ((c : Thread nD τ).loc main_arg6)) (m ((c : Thread nD τ).loc main_arg7)) (m ((c : Thread nD τ).loc main_arg11)) (m ((c : Thread nD τ).loc main_arg12)) (m ((c : Thread nD τ).loc main_arg16)) (m ((c : Thread nD τ).loc main_arg17))) := by
  refine (dats m 0 c).arrAt_eq_of_covers 18 _ (by decide +kernel) fun t hf y => ?_
  obtain ⟨r, q, rfl⟩ := eq_ix2 y
  blk_simp; rw [after0_18]
  by_cases h0 : t.val % 43 = 0
  · rw [outsAt0_A m c t h0 (by omega)]; unfold pt0_A; frame_out
    refine (Pure.da_down _ _ _ _ _ _ _ (pt t) _ _ _ _ _ _ _ (blk1 m c t) (blk6 m c t) (blk7 m c t) (blk11 m c t) (blk12 m c t) (blk16 m c t) (blk17 m c t) r q).trans (congrArg _ ?_)
    blk_ext [pt, Pure.col, idx_val t]
  · by_cases h1 : t.val % 43 = 42
    · rw [outsAt0_C m c t h0 h1]; unfold pt0_C; frame_out
      refine (Pure.da_down _ _ _ _ _ _ _ (pt t) _ _ _ _ _ _ _ (blk1 m c t) (blk6 m c t) (blk7 m c t) (blk11 m c t) (blk12 m c t) (blk16 m c t) (blk17 m c t) r q).trans (congrArg _ ?_)
      blk_ext [pt, Pure.col, idx_val t]
    · rw [outsAt0_B m c t h0 h1]; unfold pt0_B; frame_out
      refine (Pure.da_down _ _ _ _ _ _ _ (pt t) _ _ _ _ _ _ _ (blk1 m c t) (blk6 m c t) (blk7 m c t) (blk11 m c t) (blk12 m c t) (blk16 m c t) (blk17 m c t) r q).trans (congrArg _ ?_)
      blk_ext [pt, Pure.col, idx_val t]

set_option maxHeartbeats 1000000 in
/-- Output 19 holds the gradient of the gate magnitude. -/
theorem final_19 (c : Dev nD) : (dats m 0 c).arrAt 19 (cfgs 0).N = (val_main_v82 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg16)) (m ((c : Thread nD τ).loc main_arg17))) := by
  refine (dats m 0 c).arrAt_eq_of_covers 19 _ (by decide +kernel) fun t hf y => ?_
  obtain ⟨r, q, rfl⟩ := eq_ix2 y
  blk_simp; rw [after0_19]
  by_cases h0 : t.val % 43 = 0
  · rw [outsAt0_A m c t h0 (by omega)]; unfold pt0_A; frame_out
    refine (Pure.dmag_gate _ _ _ _ _ _ _ _ _ _ (pt t) _ _ _ _ (da_at m c t) (yG_at m c t) (yU_at m c t) (sg_at m c t) _ _ (blk6 m c t) (blk12 m c t) r q).trans (congrArg _ ?_)
    blk_ext [pt, Pure.col, idx_val t]
  · by_cases h1 : t.val % 43 = 42
    · rw [outsAt0_C m c t h0 h1]; unfold pt0_C; frame_out
      refine (Pure.dmag_gate _ _ _ _ _ _ _ _ _ _ (pt t) _ _ _ _ (da_at m c t) (yG_at m c t) (yU_at m c t) (sg_at m c t) _ _ (blk6 m c t) (blk12 m c t) r q).trans (congrArg _ ?_)
      blk_ext [pt, Pure.col, idx_val t]
    · rw [outsAt0_B m c t h0 h1]; unfold pt0_B; frame_out
      refine (Pure.dmag_gate _ _ _ _ _ _ _ _ _ _ (pt t) _ _ _ _ (da_at m c t) (yG_at m c t) (yU_at m c t) (sg_at m c t) _ _ (blk6 m c t) (blk12 m c t) r q).trans (congrArg _ ?_)
      blk_ext [pt, Pure.col, idx_val t]

set_option maxHeartbeats 1000000 in
/-- Output 20 holds the gradient of the up magnitude. -/
theorem final_20 (c : Dev nD) : (dats m 0 c).arrAt 20 (cfgs 0).N = (val_main_v83 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg17))) := by
  refine (dats m 0 c).arrAt_eq_of_covers 20 _ (by decide +kernel) fun t hf y => ?_
  obtain ⟨r, q, rfl⟩ := eq_ix2 y
  blk_simp; rw [after0_20]
  by_cases h0 : t.val % 43 = 0
  · rw [outsAt0_A m c t h0 (by omega)]; unfold pt0_A; frame_out
    refine (Pure.dmag_up _ _ _ _ _ _ _ _ _ (pt t) _ (gU_at m c t) _ _ (blk7 m c t) (blk17 m c t) r q).trans (congrArg _ ?_)
    blk_ext [pt, Pure.col, idx_val t]
  · by_cases h1 : t.val % 43 = 42
    · rw [outsAt0_C m c t h0 h1]; unfold pt0_C; frame_out
      refine (Pure.dmag_up _ _ _ _ _ _ _ _ _ (pt t) _ (gU_at m c t) _ _ (blk7 m c t) (blk17 m c t) r q).trans (congrArg _ ?_)
      blk_ext [pt, Pure.col, idx_val t]
    · rw [outsAt0_B m c t h0 h1]; unfold pt0_B; frame_out
      refine (Pure.dmag_up _ _ _ _ _ _ _ _ _ (pt t) _ (gU_at m c t) _ _ (blk7 m c t) (blk17 m c t) r q).trans (congrArg _ ?_)
      blk_ext [pt, Pure.col, idx_val t]

set_option maxHeartbeats 1000000 in
/-- Output 21 holds the gradient of the gate adapter's second factor. -/
theorem final_21 (c : Dev nD) : (dats m 0 c).arrAt 21 (cfgs 0).N = (val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg16)) (m ((c : Thread nD τ).loc main_arg17))) := by
  refine (dats m 0 c).arrAt_eq_of_covers 21 _ (by decide +kernel) fun t hf y => ?_
  obtain ⟨r, q, rfl⟩ := eq_ix2 y
  blk_simp; rw [after0_21]
  by_cases h0 : t.val % 43 = 0
  · rw [outsAt0_A m c t h0 (by omega)]; unfold pt0_A; frame_out
    refine (Pure.db_gate _ _ _ _ _ _ _ _ _ _ _ (pt t) _ _ _ _ (da_at m c t) (yG_at m c t) (yU_at m c t) (sg_at m c t) _ (coefG_at m c t) _ (blk2 m c t) r q).trans (congrArg _ ?_)
    blk_ext [pt, Pure.col, idx_val t]
  · by_cases h1 : t.val % 43 = 42
    · rw [outsAt0_C m c t h0 h1]; unfold pt0_C; frame_out
      refine (Pure.db_gate _ _ _ _ _ _ _ _ _ _ _ (pt t) _ _ _ _ (da_at m c t) (yG_at m c t) (yU_at m c t) (sg_at m c t) _ (coefG_at m c t) _ (blk2 m c t) r q).trans (congrArg _ ?_)
      blk_ext [pt, Pure.col, idx_val t]
    · rw [outsAt0_B m c t h0 h1]; unfold pt0_B; frame_out
      refine (Pure.db_gate _ _ _ _ _ _ _ _ _ _ _ (pt t) _ _ _ _ (da_at m c t) (yG_at m c t) (yU_at m c t) (sg_at m c t) _ (coefG_at m c t) _ (blk2 m c t) r q).trans (congrArg _ ?_)
      blk_ext [pt, Pure.col, idx_val t]

set_option maxHeartbeats 1000000 in
/-- Output 22 holds the gradient of the up adapter's second factor. -/
theorem final_22 (c : Dev nD) : (dats m 0 c).arrAt 22 (cfgs 0).N = (val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg16)) (m ((c : Thread nD τ).loc main_arg17))) := by
  refine (dats m 0 c).arrAt_eq_of_covers 22 _ (by decide +kernel) fun t hf y => ?_
  obtain ⟨r, q, rfl⟩ := eq_ix2 y
  blk_simp; rw [after0_22]
  by_cases h0 : t.val % 43 = 0
  · rw [outsAt0_A m c t h0 (by omega)]; unfold pt0_A; frame_out
    refine (Pure.db_up _ _ _ _ _ _ _ _ _ _ (pt t) _ (gU_at m c t) _ (coefU_at m c t) _ (blk3 m c t) r q).trans (congrArg _ ?_)
    blk_ext [pt, Pure.col, idx_val t]
  · by_cases h1 : t.val % 43 = 42
    · rw [outsAt0_C m c t h0 h1]; unfold pt0_C; frame_out
      refine (Pure.db_up _ _ _ _ _ _ _ _ _ _ (pt t) _ (gU_at m c t) _ (coefU_at m c t) _ (blk3 m c t) r q).trans (congrArg _ ?_)
      blk_ext [pt, Pure.col, idx_val t]
    · rw [outsAt0_B m c t h0 h1]; unfold pt0_B; frame_out
      refine (Pure.db_up _ _ _ _ _ _ _ _ _ _ (pt t) _ (gU_at m c t) _ (coefU_at m c t) _ (blk3 m c t) r q).trans (congrArg _ ?_)
      blk_ext [pt, Pure.col, idx_val t]

/-- The part of a tile in the gate adapter sum. -/
def partG (c : Dev nD) (T : Fin 43) (j : S1024x32.Idx) : EReal :=
  ∑ q : Fin 256, ((val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg16)) (m ((c : Thread nD τ).loc main_arg17))) (ix2 (j 0) (Pure.col T q)) * (m ((c : Thread nD τ).loc main_arg10)) (ix2 (Pure.col T q) (j 1)) : EReal)

/-- The part of a tile in the up adapter sum. -/
def partU (c : Dev nD) (T : Fin 43) (j : S1024x32.Idx) : EReal :=
  ∑ q : Fin 256, ((val_main_v69 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg16)) (m ((c : Thread nD τ).loc main_arg17))) (ix2 (j 0) (Pure.col T q)) * (m ((c : Thread nD τ).loc main_arg15)) (ix2 (Pure.col T q) (j 1)) : EReal)

/-- The part of a tile in the gradient of the hidden state. -/
def partH (c : Dev nD) (T : Fin 43) (j : S1024x4096.Idx) : EReal :=
  (∑ q : Fin 256, ((val_main_v53 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg11)) (m ((c : Thread nD τ).loc main_arg12)) (m ((c : Thread nD τ).loc main_arg16)) (m ((c : Thread nD τ).loc main_arg17))) (ix2 (j 0) (Pure.col T q)) * (val_main_v2 (F := Ideal) (m ((c : Thread nD τ).loc main_arg8))) (ix2 (Pure.col T q) (j 1)) : EReal)) + ∑ q : Fin 256, ((val_main_v73 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg14)) (m ((c : Thread nD τ).loc main_arg16)) (m ((c : Thread nD τ).loc main_arg17))) (ix2 (j 0) (Pure.col T q)) * (val_main_v5 (F := Ideal) (m ((c : Thread nD τ).loc main_arg13))) (ix2 (Pure.col T q) (j 1)) : EReal)

/-- The zero an accumulator starts from. -/
theorem zero_h (j : S1024x4096.Idx) : k0_pay4 (F := Ideal) j = 0 := by
  pointwise! [k0_pay4]

/-- The zero an accumulator starts from. -/
theorem zero_g (j : S1024x32.Idx) : k0_pay5 (F := Ideal) j = 0 := by
  pointwise! [k0_pay5]

/-- The zero an accumulator starts from. -/
theorem zero_u (j : S1024x32.Idx) : k0_pay6 (F := Ideal) j = 0 := by
  pointwise! [k0_pay6]

set_option maxHeartbeats 2000000 in
/-- The gate adapter accumulator starts at the first tile's part. -/
theorem first_G (c : Dev nD) (t : Fin cfg0.N) (h0 : t.val % 43 = 0) (j : S1024x32.Idx) :
    (outsAt0 m c t.val t.isLt).2.2.2.2.2.2.2.2.1 j = 0 + partG m c (pt t) j := by
  obtain ⟨r, q, rfl⟩ := eq_ix2 j
  have hs := fun a => Pure.step_s_gate _ _ _ _ _ _ _ _ _ _ _ (pt t) _ _ _ _ (da_at m c t) (yG_at m c t) (yU_at m c t) (sg_at m c t) _ (coefG_at m c t) _ (blk10 m c t) a r q
  rw [outsAt0_A m c t h0 (by omega)]; unfold pt0_A; frame_out
  exact (hs _).trans (by rw [zero_g]; rfl)

set_option maxHeartbeats 2000000 in
/-- Every later point adds its tile's part to the gate adapter accumulator. -/
theorem next_G (c : Dev nD) (t : Fin cfg0.N) (h0 : ¬t.val % 43 = 0) (j : S1024x32.Idx) :
    (outsAt0 m c t.val t.isLt).2.2.2.2.2.2.2.2.1 j
      = (outsAt0 m c (t.val - 1) (Nat.lt_of_le_of_lt (Nat.sub_le _ _) t.isLt)).2.2.2.2.2.2.2.2.1 j + partG m c (pt t) j := by
  obtain ⟨r, q, rfl⟩ := eq_ix2 j
  have hs := fun a => Pure.step_s_gate _ _ _ _ _ _ _ _ _ _ _ (pt t) _ _ _ _ (da_at m c t) (yG_at m c t) (yU_at m c t) (sg_at m c t) _ (coefG_at m c t) _ (blk10 m c t) a r q
  by_cases h1 : t.val % 43 = 42
  · rw [outsAt0_C m c t h0 h1]; unfold pt0_C; frame_out
    refine (hs _).trans (congrArg₂ (· + ·) ?_ rfl)
    first | rfl | rw [read_unread_whole]
  · rw [outsAt0_B m c t h0 h1]; unfold pt0_B; frame_out
    refine (hs _).trans (congrArg₂ (· + ·) ?_ rfl)
    first | rfl | rw [read_unread_whole]

/-- After the last point the gate adapter accumulator is the sum of all tiles' parts. -/
theorem sum_G (c : Dev nD) (t : Fin cfg0.N) (ht : t.val + 1 = cfg0.N) (j : S1024x32.Idx) :
    (outsAt0 m c t.val t.isLt).2.2.2.2.2.2.2.2.1 j = ∑ p : Fin cfg0.N, partG m c (pt p) j := by
  rw [Pipeline.eq_sum_fin_of_reset_step_apply_last (fun n h => (outsAt0 m c n h).2.2.2.2.2.2.2.2.1) 43 (fun _ => 0)
    (fun t j => partG m c (pt t) j) (first_G m c) (next_G m c) (le_of_eq N_0) t ht, zero_add]

set_option maxHeartbeats 2000000 in
/-- The up adapter accumulator starts at the first tile's part. -/
theorem first_U (c : Dev nD) (t : Fin cfg0.N) (h0 : t.val % 43 = 0) (j : S1024x32.Idx) :
    (outsAt0 m c t.val t.isLt).2.2.2.2.2.2.2.2.2 j = 0 + partU m c (pt t) j := by
  obtain ⟨r, q, rfl⟩ := eq_ix2 j
  have hs := fun a => Pure.step_s_up _ _ _ _ _ _ _ _ _ _ (pt t) _ (gU_at m c t) _ (coefU_at m c t) _ (blk15 m c t) a r q
  rw [outsAt0_A m c t h0 (by omega)]; unfold pt0_A; frame_out
  exact (hs _).trans (by rw [zero_u]; rfl)

set_option maxHeartbeats 2000000 in
/-- Every later point adds its tile's part to the up adapter accumulator. -/
theorem next_U (c : Dev nD) (t : Fin cfg0.N) (h0 : ¬t.val % 43 = 0) (j : S1024x32.Idx) :
    (outsAt0 m c t.val t.isLt).2.2.2.2.2.2.2.2.2 j
      = (outsAt0 m c (t.val - 1) (Nat.lt_of_le_of_lt (Nat.sub_le _ _) t.isLt)).2.2.2.2.2.2.2.2.2 j + partU m c (pt t) j := by
  obtain ⟨r, q, rfl⟩ := eq_ix2 j
  have hs := fun a => Pure.step_s_up _ _ _ _ _ _ _ _ _ _ (pt t) _ (gU_at m c t) _ (coefU_at m c t) _ (blk15 m c t) a r q
  by_cases h1 : t.val % 43 = 42
  · rw [outsAt0_C m c t h0 h1]; unfold pt0_C; frame_out
    refine (hs _).trans (congrArg₂ (· + ·) ?_ rfl)
    first | rfl | rw [read_unread_whole]
  · rw [outsAt0_B m c t h0 h1]; unfold pt0_B; frame_out
    refine (hs _).trans (congrArg₂ (· + ·) ?_ rfl)
    first | rfl | rw [read_unread_whole]

/-- After the last point the up adapter accumulator is the sum of all tiles' parts. -/
theorem sum_U (c : Dev nD) (t : Fin cfg0.N) (ht : t.val + 1 = cfg0.N) (j : S1024x32.Idx) :
    (outsAt0 m c t.val t.isLt).2.2.2.2.2.2.2.2.2 j = ∑ p : Fin cfg0.N, partU m c (pt p) j := by
  rw [Pipeline.eq_sum_fin_of_reset_step_apply_last (fun n h => (outsAt0 m c n h).2.2.2.2.2.2.2.2.2) 43 (fun _ => 0)
    (fun t j => partU m c (pt t) j) (first_U m c) (next_U m c) (le_of_eq N_0) t ht, zero_add]

set_option maxHeartbeats 2000000 in
/-- The gradient of the hidden state starts at the first tile's part. -/
theorem first_H (c : Dev nD) (t : Fin cfg0.N) (h0 : t.val % 43 = 0) (j : S1024x4096.Idx) :
    (outsAt0 m c t.val t.isLt).2.2.2.2.2.1 j = 0 + partH m c (pt t) j := by
  obtain ⟨r, q, rfl⟩ := eq_ix2 j
  have hs := fun a => Pure.step_dh _ _ _ _ _ _ _ _ _ _ _ _ _ _ (pt t) _ _ (Pure.gw_gate _ _ _ _ _ _ _ _ _ _ _ (pt t) _ (Pure.gc_gate _ _ _ _ _ _ _ _ _ _ (pt t) _ _ _ _ (da_at m c t) (yG_at m c t) (yU_at m c t) (sg_at m c t) _ (coefG_at m c t)) _ (blk9 m c t)) (Pure.gw_up _ _ _ _ _ _ _ _ _ _ (pt t) _ (gU_at m c t) _ (coefU_at m c t) _ (blk14 m c t)) _ _ (blk8 m c t) (blk13 m c t) a r q
  rw [outsAt0_A m c t h0 (by omega)]; unfold pt0_A; frame_out
  exact (hs _).trans (by rw [zero_h]; rfl)

set_option maxHeartbeats 2000000 in
/-- Every later point adds its tile's part to the gradient of the hidden state. -/
theorem next_H (c : Dev nD) (t : Fin cfg0.N) (h0 : ¬t.val % 43 = 0) (j : S1024x4096.Idx) :
    (outsAt0 m c t.val t.isLt).2.2.2.2.2.1 j
      = (outsAt0 m c (t.val - 1) (Nat.lt_of_le_of_lt (Nat.sub_le _ _) t.isLt)).2.2.2.2.2.1 j + partH m c (pt t) j := by
  obtain ⟨r, q, rfl⟩ := eq_ix2 j
  have hs := fun a => Pure.step_dh _ _ _ _ _ _ _ _ _ _ _ _ _ _ (pt t) _ _ (Pure.gw_gate _ _ _ _ _ _ _ _ _ _ _ (pt t) _ (Pure.gc_gate _ _ _ _ _ _ _ _ _ _ (pt t) _ _ _ _ (da_at m c t) (yG_at m c t) (yU_at m c t) (sg_at m c t) _ (coefG_at m c t)) _ (blk9 m c t)) (Pure.gw_up _ _ _ _ _ _ _ _ _ _ (pt t) _ (gU_at m c t) _ (coefU_at m c t) _ (blk14 m c t)) _ _ (blk8 m c t) (blk13 m c t) a r q
  by_cases h1 : t.val % 43 = 42
  · rw [outsAt0_C m c t h0 h1]; unfold pt0_C; frame_out
    refine (hs _).trans (congrArg₂ (· + ·) ?_ rfl)
    first | rfl | rw [read_unread_whole]
  · rw [outsAt0_B m c t h0 h1]; unfold pt0_B; frame_out
    refine (hs _).trans (congrArg₂ (· + ·) ?_ rfl)
    first | rfl | rw [read_unread_whole]

/-- After the last point the gradient of the hidden state is the sum of all tiles' parts. -/
theorem sum_H (c : Dev nD) (t : Fin cfg0.N) (ht : t.val + 1 = cfg0.N) (j : S1024x4096.Idx) :
    (outsAt0 m c t.val t.isLt).2.2.2.2.2.1 j = ∑ p : Fin cfg0.N, partH m c (pt p) j := by
  rw [Pipeline.eq_sum_fin_of_reset_step_apply_last (fun n h => (outsAt0 m c n h).2.2.2.2.2.1) 43 (fun _ => 0)
    (fun t j => partH m c (pt t) j) (first_H m c) (next_H m c) (le_of_eq N_0) t ht, zero_add]

/-- Output 23 holds the gradient of the hidden state through the codes. -/
theorem final_23 (c : Dev nD) : (dats m 0 c).arrAt 23 (cfgs 0).N = (val_main_v84 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17))) := by
  refine (dats m 0 c).arrAt_eq_of_after_last 23 tl (by decide +kernel) _ fun j => ?_
  blk_simp
  rw [after0_23, sum_H m c tl N_0.symm]
  obtain ⟨r, q, rfl⟩ := eq_ix2 j
  pointwise [val_main_v84, val_main_v61, val_main_v81]
  unfold partH
  rw [Finset.sum_add_distrib]
  refine congrArg₂ (· + ·) ?_ ?_
  · refine Fin.sum_mul_add_congr fun t q hl => ?_
    rfl
  · refine Fin.sum_mul_add_congr fun t q hl => ?_
    rfl

/-- The gate adapter sum is the reference's. -/
theorem dot_G (c : Dev nD) (r : Fin 1024) (q : Fin 32) : (∑ p : Fin cfg0.N, partG m c (pt p) (ix2 r q)) = (val_main_v57 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg16)) (m ((c : Thread nD τ).loc main_arg17))) (ix2 r q) := by
  pointwise [val_main_v57]
  unfold partG
  refine Fin.sum_mul_add_congr fun t q hl => ?_
  rfl

set_option maxHeartbeats 1000000 in
/-- Output 24 holds the scaled gate adapter sum. -/
theorem final_24 (c : Dev nD) : (dats m 0 c).arrAt 24 (cfgs 0).N = (val_main_v60 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg16)) (m ((c : Thread nD τ).loc main_arg17))) := by
  refine (dats m 0 c).arrAt_eq_of_after_last 24 tl (by decide +kernel) _ fun j => ?_
  blk_simp
  obtain ⟨r, q, rfl⟩ := eq_ix2 j
  have hacc := (sum_G m c tl N_0.symm (ix2 r q)).trans (dot_G m c r q)
  rw [outsAt0_C m c tl (by decide) (by decide)] at hacc
  rw [after0_24, outsAt0_C m c tl (by decide) (by decide)]
  unfold pt0_C at hacc ⊢
  dsimp only at hacc ⊢
  frame_out
  have hl := fun (a : FVec Ideal S1024x32 .f32) (h : a (ix2 r q) = (val_main_v57 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg16)) (m ((c : Thread nD τ).loc main_arg17))) (ix2 r q)) => Pure.last_gate _ _ _ _ _ _ _ _ _ _ _ a r q h
  refine hl _ (Eq.trans ?_ hacc)
  frame_out

/-- The up adapter sum is the reference's. -/
theorem dot_U (c : Dev nD) (r : Fin 1024) (q : Fin 32) : (∑ p : Fin cfg0.N, partU m c (pt p) (ix2 r q)) = (val_main_v77 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg15)) (m ((c : Thread nD τ).loc main_arg16)) (m ((c : Thread nD τ).loc main_arg17))) (ix2 r q) := by
  pointwise [val_main_v77]
  unfold partU
  refine Fin.sum_mul_add_congr fun t q hl => ?_
  rfl

set_option maxHeartbeats 1000000 in
/-- Output 25 holds the scaled up adapter sum. -/
theorem final_25 (c : Dev nD) : (dats m 0 c).arrAt 25 (cfgs 0).N = (val_main_v80 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg15)) (m ((c : Thread nD τ).loc main_arg16)) (m ((c : Thread nD τ).loc main_arg17))) := by
  refine (dats m 0 c).arrAt_eq_of_after_last 25 tl (by decide +kernel) _ fun j => ?_
  blk_simp
  obtain ⟨r, q, rfl⟩ := eq_ix2 j
  have hacc := (sum_U m c tl N_0.symm (ix2 r q)).trans (dot_U m c r q)
  rw [outsAt0_C m c tl (by decide) (by decide)] at hacc
  rw [after0_25, outsAt0_C m c tl (by decide) (by decide)]
  unfold pt0_C at hacc ⊢
  dsimp only at hacc ⊢
  frame_out
  have hl := fun (a : FVec Ideal S1024x32 .f32) (h : a (ix2 r q) = (val_main_v77 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg15)) (m ((c : Thread nD τ).loc main_arg16)) (m ((c : Thread nD τ).loc main_arg17))) (ix2 r q)) => Pure.last_up _ _ _ _ _ _ _ _ _ _ a r q h
  refine hl _ (Eq.trans ?_ hacc)
  frame_out

end Cert.BwdIdeal.Final

end
-- ==== Proof.NormBwdPure.lean ====
module

public import proofs.«01_k».proof.Proof.Gen.NormBwdIdeal.Skeleton
public import proofs.«01_k».proof.Proof.Gen.NormBwdRefIdeal.Read
public import Idealize.ShloMosaic.Lib.Pointwise

@[expose] public section

set_option maxRecDepth 16384

noncomputable section

open Idealize.ShloMosaic Idealize.ShloMosaic.TcCoe Idealize.SL.Sem

/-! # The backward pass of the normalization, read at an index

One point of the grid handles the 128 rows that start at row `T * 128`. Every value it computes is the
reference's value at row `T * 128 + r` and at the same column. The lemmas are stated over the blocks
and the whole arrays, with one hypothesis per block that says which part of its array it holds. -/

namespace Cert.NormBwdIdeal.Pure

open Cert.NormBwdIdeal Cert.NormBwdIdeal.Gen Cert.NormBwdRefIdeal.Read

/-- Row `r` of tile `T`. -/
def row (T : Fin 8) (r : Fin 128) : Fin 1024 := ⟨T.val * 128 + r.val, by omega⟩

/-- A block of 128 rows, with `n` columns, is tile `T` of an array of 1024 rows. -/
def RowTile {α : Type} {n : ℕ} (T : Fin 8) (b : (⟨2, ![128, n]⟩ : Shape).Idx → α) (x : (⟨2, ![1024, n]⟩ : Shape).Idx → α) : Prop :=
  ∀ (r : Fin 128) (k : Fin n), b (ix2 r k) = x (ix2 (row T r) k)

variable (x0 x1 : FVec Ideal Cert.NormBwdRefIdeal.S2x512x4096 .bf16)
variable (x2 : FVec Ideal Cert.NormBwdRefIdeal.S1024x4096 .f32)
variable (x3 : FVec Ideal Cert.NormBwdRefIdeal.S4096 .f32)
variable (x4 x5 : FVec Ideal Cert.NormBwdRefIdeal.S1024x32 .bf16)
variable (x6 x7 : FVec Ideal Cert.NormBwdRefIdeal.S32x4096 .bf16)
variable (T : Fin 8)

/-- The reciprocal root mean square of each row. -/
theorem rms (b0 : FVec Ideal S128x4096 .bf16) (h0 : RowTile T b0 (val_main_v0 (F := Ideal) x0)) :
    RowTile T (k0_pay8 (F := Ideal) b0) (val_main_v13 (F := Ideal) x0) := by
  intro r k
  obtain rfl : k = 0 := Subsingleton.elim _ _
  pointwise [k0_pay8, k0_pay7, val_main_v13, val_main_v12, val_main_cst_2, val_main_v11, val_main_v10, val_main_v9, val_main_cst_1, val_main_v8, val_main_v7, val_main_cst_0, val_main_v6, val_main_v5, val_main_cst, val_main_v4, val_main_v1]
  simp only [h0 r]

/-- The normalized input. -/
theorem xhat (b0 : FVec Ideal S128x4096 .bf16) (h0 : RowTile T b0 (val_main_v0 (F := Ideal) x0)) :
    RowTile T (k0_pay9 (F := Ideal) b0) (val_main_v15 (F := Ideal) x0) := by
  intro r k
  have h := rms x0 T b0 h0 r 0
  pointwise [k0_pay9, k0_pay7, val_main_v15, val_main_v14, val_main_v1]
  rw [h, h0 r k]

/-- The normalized and weighted input. -/
theorem hn (b0 : FVec Ideal S128x4096 .bf16) (b3 : FVec Ideal S1x4096 .f32) (h0 : RowTile T b0 (val_main_v0 (F := Ideal) x0)) (h3 : ∀ k : Fin 4096, b3 (ix2 0 k) = x3 (ix1 k)) :
    RowTile T (k0_pay10 (F := Ideal) b0 b3) (val_main_v19 (F := Ideal) x0 x3) := by
  intro r k
  have h := xhat x0 T b0 h0 r k
  pointwise [k0_pay10, val_main_v19, val_main_v18, val_main_v17, val_main_v16]
  rw [h, h3 k]

/-- The gradient of the normalized input: the three parts of the hidden-state gradient, weighted. -/
theorem dxhat (b2 : FVec Ideal S128x4096 .f32) (b3 : FVec Ideal S1x4096 .f32) (b4 b5 : FVec Ideal S128x32 .bf16) (b6 b7 : FVec Ideal S32x4096 .bf16)
    (h2 : RowTile T b2 x2) (h3 : ∀ k : Fin 4096, b3 (ix2 0 k) = x3 (ix1 k)) (h4 : RowTile T b4 x4) (h5 : RowTile T b5 x5) (h6 : b6 = x6) (h7 : b7 = x7) :
    RowTile T (k0_pay11 (F := Ideal) b2 b4 b6 b5 b7 b3) (val_main_v26 (F := Ideal) x2 x3 x4 x5 x6 x7) := by
  intro r k
  subst h6 h7
  pointwise [k0_pay11, val_main_v26, val_main_v25, val_main_v24, val_main_v23, val_main_v22, val_main_v21, val_main_v20]
  simp only [h2 r k, h3 k, h4 r, h5 r]
  exact congrArg (· * _) (add_assoc _ _ _)

/-- The row sum of the normalized gradient times the normalized input. -/
theorem rowsum (b0 : FVec Ideal S128x4096 .bf16) (b2 : FVec Ideal S128x4096 .f32) (b3 : FVec Ideal S1x4096 .f32) (b4 b5 : FVec Ideal S128x32 .bf16) (b6 b7 : FVec Ideal S32x4096 .bf16)
    (h0 : RowTile T b0 (val_main_v0 (F := Ideal) x0)) (h2 : RowTile T b2 x2) (h3 : ∀ k : Fin 4096, b3 (ix2 0 k) = x3 (ix1 k)) (h4 : RowTile T b4 x4) (h5 : RowTile T b5 x5) (h6 : b6 = x6) (h7 : b7 = x7) (r : Fin 128) :
    k0_pay12 (F := Ideal) b0 b2 b4 b6 b5 b7 b3 (ix2 r 0) = val_main_v28 (F := Ideal) x0 x2 x3 x4 x5 x6 x7 (ix1 (row T r)) := by
  have h := dxhat x2 x3 x4 x5 x6 x7 T b2 b3 b4 b5 b6 b7 h2 h3 h4 h5 h6 h7 r
  have h' := xhat x0 T b0 h0 r
  pointwise [k0_pay12, val_main_v28, val_main_cst_3, val_main_v27]
  simp only [h, h']

/-- The mean of that product: the second result. -/
theorem rdot (b0 : FVec Ideal S128x4096 .bf16) (b2 : FVec Ideal S128x4096 .f32) (b3 : FVec Ideal S1x4096 .f32) (b4 b5 : FVec Ideal S128x32 .bf16) (b6 b7 : FVec Ideal S32x4096 .bf16)
    (h0 : RowTile T b0 (val_main_v0 (F := Ideal) x0)) (h2 : RowTile T b2 x2) (h3 : ∀ k : Fin 4096, b3 (ix2 0 k) = x3 (ix1 k)) (h4 : RowTile T b4 x4) (h5 : RowTile T b5 x5) (h6 : b6 = x6) (h7 : b7 = x7) :
    RowTile T (k0_pay1 (F := Ideal) (k0_pay12 (F := Ideal) b0 b2 b4 b6 b5 b7 b3)) (val_main_v31 (F := Ideal) x0 x2 x3 x4 x5 x6 x7) := by
  intro r k
  obtain rfl : k = 0 := Subsingleton.elim _ _
  have h := rowsum x0 x2 x3 x4 x5 x6 x7 T b0 b2 b3 b4 b5 b6 b7 h0 h2 h3 h4 h5 h6 h7 r
  pointwise [k0_pay1, val_main_v31, val_main_v30, val_main_cst_4, val_main_v29]
  rw [h]

/-- The gradient of the input: the first result. -/
theorem dx (b0 b1 : FVec Ideal S128x4096 .bf16) (b2 : FVec Ideal S128x4096 .f32) (b3 : FVec Ideal S1x4096 .f32) (b4 b5 : FVec Ideal S128x32 .bf16) (b6 b7 : FVec Ideal S32x4096 .bf16)
    (h0 : RowTile T b0 (val_main_v0 (F := Ideal) x0)) (h1 : RowTile T b1 (val_main_v2 (F := Ideal) x1)) (h2 : RowTile T b2 x2) (h3 : ∀ k : Fin 4096, b3 (ix2 0 k) = x3 (ix1 k)) (h4 : RowTile T b4 x4) (h5 : RowTile T b5 x5) (h6 : b6 = x6) (h7 : b7 = x7) :
    RowTile T (k0_pay2 (F := Ideal) (k0_pay8 (F := Ideal) b0) (k0_pay9 (F := Ideal) b0) (k0_pay11 (F := Ideal) b2 b4 b6 b5 b7 b3) (k0_pay12 (F := Ideal) b0 b2 b4 b6 b5 b7 b3) b1) (val_main_v38 (F := Ideal) x0 x1 x2 x3 x4 x5 x6 x7) := by
  intro r k
  have hr := rms x0 T b0 h0 r 0
  have hx := xhat x0 T b0 h0 r k
  have hd := dxhat x2 x3 x4 x5 x6 x7 T b2 b3 b4 b5 b6 b7 h2 h3 h4 h5 h6 h7 r k
  have hm := rdot x0 x2 x3 x4 x5 x6 x7 T b0 b2 b3 b4 b5 b6 b7 h0 h2 h3 h4 h5 h6 h7 r 0
  pointwise [k0_pay2, val_main_v38, val_main_v37, val_main_v3, val_main_v36, val_main_v35, val_main_v34, val_main_v33, val_main_v32]
  rw [hr, hx, hd, hm, h1 r k]

/-- One step of the gate adapter's accumulator adds the tile's part of the sum over the rows. -/
theorem step_gate (v : FVec Ideal S128x4096 .bf16) (hv : RowTile T v (val_main_v19 (F := Ideal) x0 x3)) (a : FVec Ideal S32x4096 .f32) (b4 : FVec Ideal S128x32 .bf16) (h4 : RowTile T b4 x4) (j : Fin 32) (k : Fin 4096) :
    k0_pay5 (F := Ideal) v a b4 (ix2 j k) = a (ix2 j k) + ∑ q : Fin 128, x4 (ix2 (row T q) j) * (val_main_v19 (F := Ideal) x0 x3) (ix2 (row T q) k) := by
  pointwise [k0_pay5]
  refine congrArg₂ (· + ·) rfl (Finset.sum_congr rfl fun q _ => ?_)
  rw [hv q k, h4 q j]

/-- One step of the up adapter's accumulator. -/
theorem step_up (v : FVec Ideal S128x4096 .bf16) (hv : RowTile T v (val_main_v19 (F := Ideal) x0 x3)) (a : FVec Ideal S32x4096 .f32) (b5 : FVec Ideal S128x32 .bf16) (h5 : RowTile T b5 x5) (j : Fin 32) (k : Fin 4096) :
    k0_pay6 (F := Ideal) v a b5 (ix2 j k) = a (ix2 j k) + ∑ q : Fin 128, x5 (ix2 (row T q) j) * (val_main_v19 (F := Ideal) x0 x3) (ix2 (row T q) k) := by
  pointwise [k0_pay6]
  refine congrArg₂ (· + ·) rfl (Finset.sum_congr rfl fun q _ => ?_)
  rw [hv q k, h5 q j]

end Cert.NormBwdIdeal.Pure

end
-- ==== Proof.NormBwdFinal.lean ====
module

public import proofs.«01_k».proof.Proof.NormBwdPure
public import proofs.«01_k».proof.Proof.Gen.NormBwdIdeal.Frame
public import proofs.«01_k».proof.Proof.Gen.NormBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! # The backward pass of the normalization: the arrays after the run

Each output array is the reference's array, as a function of the arguments. -/

namespace Cert.NormBwdIdeal.Final

open Cert.NormBwdIdeal Cert.NormBwdIdeal.Gen Cert.NormBwdRefIdeal.Read

variable (m : (ℓ : Loc nD τ sig) → Buf (Elt Ideal) ℓ)

/-- The block index of every window at every point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![0, 0]
    ∧ win0_7.index t = ![0, 0]
    ∧ win0_8.index t = ![t.val, 0]
    ∧ win0_9.index t = ![t.val, 0]
    ∧ win0_10.index t = ![0, 0]
    ∧ win0_11.index t = ![0, 0] :=
  (by decide +kernel : ∀ t : Fin grid0.N, _)

/-- The row tile of a point of the grid. -/
def pt (t : Fin cfg0.N) : Fin 8 := ⟨t.val, lt_of_lt_of_eq t.isLt N_0⟩

/-- An index of two coordinates is the pair of them. -/
theorem eq_ix2 {a b : ℕ} (y : (⟨2, ![a, b]⟩ : Shape).Idx) : ∃ (r : Fin a) (k : Fin b), y = ix2 r k :=
  ⟨y 0, y 1, funext fun d => by match d with | ⟨0, _⟩ => rfl | ⟨1, _⟩ => rfl⟩

/-- What the input blocks at a point hold: parts of the arguments. -/
theorem blk0 (c : Dev nD) (t : Fin cfg0.N) : Pure.RowTile (pt t) (iblk m c 0 t) (val_main_v0 (F := Ideal) (m ((c : Thread nD τ).loc main_arg0))) := by
  intro r k
  blk_simp [iblk, idx_val t]; entry_read
  exact congrArg (val_main_v0 (F := Ideal) (m ((c : Thread nD τ).loc main_arg0))) (by blk_ext [pt, Pure.row, idx_val t])

theorem blk1 (c : Dev nD) (t : Fin cfg0.N) : Pure.RowTile (pt t) (iblk m c 1 t) (val_main_v2 (F := Ideal) (m ((c : Thread nD τ).loc main_arg1))) := by
  intro r k
  blk_simp [iblk, idx_val t]; entry_read
  exact congrArg (val_main_v2 (F := Ideal) (m ((c : Thread nD τ).loc main_arg1))) (by blk_ext [pt, Pure.row, idx_val t])

theorem blk2 (c : Dev nD) (t : Fin cfg0.N) : Pure.RowTile (pt t) (iblk m c 2 t) (m ((c : Thread nD τ).loc main_arg2)) := by
  intro r k
  blk_ext [iblk, V, pt, Pure.row, idx_val t]

theorem blk3 (c : Dev nD) (t : Fin cfg0.N) (k : Fin 4096) : iblk m c 3 t (ix2 0 k) = m ((c : Thread nD τ).loc main_arg3) (ix1 k) := by
  blk_simp [iblk, idx_val t]; entry_read
  pointwise
  blk_ext [idx_val t]

theorem blk4 (c : Dev nD) (t : Fin cfg0.N) : Pure.RowTile (pt t) (iblk m c 4 t) (m ((c : Thread nD τ).loc main_arg4)) := by
  intro r k
  blk_ext [iblk, V, pt, Pure.row, idx_val t]

theorem blk5 (c : Dev nD) (t : Fin cfg0.N) : Pure.RowTile (pt t) (iblk m c 5 t) (m ((c : Thread nD τ).loc main_arg5)) := by
  intro r k
  blk_ext [iblk, V, pt, Pure.row, idx_val t]

theorem blk6 (c : Dev nD) (t : Fin cfg0.N) : iblk m c 6 t = m ((c : Thread nD τ).loc main_arg6) := by
  funext y
  blk_ext [iblk, V, idx_val t]

theorem blk7 (c : Dev nD) (t : Fin cfg0.N) : iblk m c 7 t = m ((c : Thread nD τ).loc main_arg7) := by
  funext y
  blk_ext [iblk, V, idx_val t]

/-- The part of an adapter gradient that one tile of rows contributes. -/
def part (x : FVec Ideal Cert.NormBwdRefIdeal.S1024x32 .bf16) (v : FVec Ideal Cert.NormBwdRefIdeal.S1024x4096 .bf16) (T : Fin 8) (j : S32x4096.Idx) : EReal :=
  ∑ q : Fin 128, (x (ix2 (Pure.row T q) (j 0)) * v (ix2 (Pure.row T q) (j 1)) : EReal)

/-- The gradient of the input. -/
theorem final_8 (c : Dev nD) : (dats m 0 c).arrAt 8 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨r, k, rfl⟩ := eq_ix2 y
  blk_simp; rw [after0_8]
  have h := Pure.dx _ _ _ _ _ _ _ _ (pt t) _ _ _ _ _ _ _ _ (blk0 m c t) (blk1 m c t) (blk2 m c t) (blk3 m c t) (blk4 m c t) (blk5 m c t) (blk6 m c t) (blk7 m c t) r k
  by_cases h0 : t.val % 8 = 0
  · rw [outsAt0_A m c t h0]; dsimp only; frame_out
    refine h.trans (congrArg _ ?_)
    blk_ext [pt, Pure.row, idx_val t]
  · rw [outsAt0_B m c t h0]; dsimp only; frame_out
    refine h.trans (congrArg _ ?_)
    blk_ext [pt, Pure.row, idx_val t]

/-- The mean that the gradient subtracts. -/
theorem final_9 (c : Dev nD) : (dats m 0 c).arrAt 9 (cfgs 0).N = val_main_v31 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  obtain ⟨r, k, rfl⟩ := eq_ix2 y
  blk_simp; rw [after0_9]
  have h := Pure.rdot _ _ _ _ _ _ _ (pt t) _ _ _ _ _ _ _ (blk0 m c t) (blk2 m c t) (blk3 m c t) (blk4 m c t) (blk5 m c t) (blk6 m c t) (blk7 m c t) r k
  by_cases h0 : t.val % 8 = 0
  · rw [outsAt0_A m c t h0]; dsimp only; frame_out
    refine h.trans (congrArg _ ?_)
    blk_ext [pt, Pure.row, idx_val t]
  · rw [outsAt0_B m c t h0]; dsimp only; frame_out
    refine h.trans (congrArg _ ?_)
    blk_ext [pt, Pure.row, idx_val t]

/-- The zero the accumulators start from. -/
theorem zero_gate (j : S32x4096.Idx) : k0_pay3 (F := Ideal) j = 0 := by
  pointwise! [k0_pay3]

theorem zero_up (j : S32x4096.Idx) : k0_pay4 (F := Ideal) j = 0 := by
  pointwise! [k0_pay4]

/-- The gradient of the gate adapter's second factor: the tiles' parts add up to the sum over all rows. -/
theorem final_10 (c : Dev nD) : (dats m 0 c).arrAt 10 (cfgs 0).N = val_main_v39 (F := Ideal) (m ((c : Thread nD τ).loc main_arg0)) (m ((c : Thread nD τ).loc main_arg3)) (m ((c : Thread nD τ).loc main_arg4)) := by
  refine (dats m 0 c).arrAt_eq_of_after_last 10 t0_7 (by decide +kernel) _ fun j => ?_
  blk_simp
  have hs := fun (t : Fin cfg0.N) a j k => Pure.step_gate _ _ _ (pt t) _ (Pure.hn _ _ (pt t) _ _ (blk0 m c t) (blk3 m c t)) a _ (blk4 m c t) j k
  rw [after0_10, Pipeline.eq_sum_fin_of_reset_step_apply_last (fun n h => (outsAt0 m c n h).2.2.1) 8 (fun _ => 0)
    (fun t j => part (m ((c : Thread nD τ).loc main_arg4)) (val_main_v19 (F := Ideal) (m ((c : Thread nD τ).loc main_arg0)) (m ((c : Thread nD τ).loc main_arg3))) (pt t) j)
    (fun t h j => by
      obtain ⟨r, k, rfl⟩ := eq_ix2 j
      rw [outsAt0_A m c t h]; frame_out
      exact (hs t _ r k).trans (by rw [zero_gate]; rfl))
    (fun t h j => by
      obtain ⟨r, k, rfl⟩ := eq_ix2 j
      rw [outsAt0_B m c t h]; frame_out
      exact hs t _ r k)
    (le_of_eq N_0) t0_7 rfl, zero_add]
  obtain ⟨r, k, rfl⟩ := eq_ix2 j
  pointwise [val_main_v39]
  unfold part
  refine Fin.sum_mul_add_congr fun t q hl => ?_
  rfl

/-- The gradient of the up adapter's second factor. -/
theorem final_11 (c : Dev nD) : (dats m 0 c).arrAt 11 (cfgs 0).N = val_main_v40 (F := Ideal) (m ((c : Thread nD τ).loc main_arg0)) (m ((c : Thread nD τ).loc main_arg3)) (m ((c : Thread nD τ).loc main_arg5)) := by
  refine (dats m 0 c).arrAt_eq_of_after_last 11 t0_7 (by decide +kernel) _ fun j => ?_
  blk_simp
  have hs := fun (t : Fin cfg0.N) a j k => Pure.step_up _ _ _ (pt t) _ (Pure.hn _ _ (pt t) _ _ (blk0 m c t) (blk3 m c t)) a _ (blk5 m c t) j k
  rw [after0_11, Pipeline.eq_sum_fin_of_reset_step_apply_last (fun n h => (outsAt0 m c n h).2.2.2) 8 (fun _ => 0)
    (fun t j => part (m ((c : Thread nD τ).loc main_arg5)) (val_main_v19 (F := Ideal) (m ((c : Thread nD τ).loc main_arg0)) (m ((c : Thread nD τ).loc main_arg3))) (pt t) j)
    (fun t h j => by
      obtain ⟨r, k, rfl⟩ := eq_ix2 j
      rw [outsAt0_A m c t h]; frame_out
      exact (hs t _ r k).trans (by rw [zero_up]; rfl))
    (fun t h j => by
      obtain ⟨r, k, rfl⟩ := eq_ix2 j
      rw [outsAt0_B m c t h]; frame_out
      exact hs t _ r k)
    (le_of_eq N_0) t0_7 rfl, zero_add]
  obtain ⟨r, k, rfl⟩ := eq_ix2 j
  pointwise [val_main_v40]
  unfold part
  refine Fin.sum_mul_add_congr fun t q hl => ?_
  rfl

end Cert.NormBwdIdeal.Final

end
-- ==== Proof.lean ====
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownFinal
public import proofs.«01_k».proof.Proof.Gen.Bwd
public import proofs.«01_k».proof.Proof.BwdFrame
public import proofs.«01_k».proof.Proof.Gen.BwdIdeal
public import proofs.«01_k».proof.Proof.BwdIdealFrame
public import proofs.«01_k».proof.Proof.Gen.BwdRefIdeal
public import proofs.«01_k».proof.Proof.Gen.BwdRefIdeal.Run
public import proofs.«01_k».proof.Proof.Gen.BwdRefIdeal.Read
public import proofs.«01_k».proof.Proof.BwdIdealValue
public import proofs.«01_k».proof.Proof.BwdFinal
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.NormBwdFinal
public import Idealize.ShloMosaic.Adequacy
public import Idealize.ShloMosaic.Init

@[expose] public section

noncomputable section

namespace Cert.Proof

open Idealize.ShloMosaic Idealize.ShloMosaic.TcCoe Idealize.SL.Sem

/-- The reference of the down projection runs, keeps its arguments, and leaves every counter at zero. -/
theorem frame_DownRefIdeal : Cert.quiescent_DownRefIdeal := fun m ρ _ =>
  (θ_run Cert.DownRefIdeal.defs _ _).mono (fun r h => ⟨fun c => (h c).2.2.2.2.2.2, sem_eq_zero_of_no_sems (by decide) r.2⟩)
    (Cert.DownRefIdeal.Value.run (F := Ideal) m ρ)

set_option maxHeartbeats 4000000 in
/-- At the ideal numbers, the down projection and its reference return the same arrays. -/
theorem algebraic_Down : Cert.algebraic_DownIdeal_DownRefIdeal := by
  intro m g m' g' _ hag
  refine ⟨fun c => Cert.DownRefIdeal.Read.val_main_v44 (F := Ideal) (m (c.tc.loc Cert.DownIdeal.main_arg0)) (m (c.tc.loc Cert.DownIdeal.main_arg2)) (m (c.tc.loc Cert.DownIdeal.main_arg3)) (m (c.tc.loc Cert.DownIdeal.main_arg4)) (m (c.tc.loc Cert.DownIdeal.main_arg5)) (m (c.tc.loc Cert.DownIdeal.main_arg6)) (m (c.tc.loc Cert.DownIdeal.main_arg7)) (m (c.tc.loc Cert.DownIdeal.main_arg8)), fun c => Cert.DownRefIdeal.Read.val_main_v55 (F := Ideal) (m (c.tc.loc Cert.DownIdeal.main_arg1)) (m (c.tc.loc Cert.DownIdeal.main_arg4)) (m (c.tc.loc Cert.DownIdeal.main_arg5)) (m (c.tc.loc Cert.DownIdeal.main_arg6)) (m (c.tc.loc Cert.DownIdeal.main_arg7)) (m (c.tc.loc Cert.DownIdeal.main_arg8)), fun c => Cert.DownRefIdeal.Read.val_main_v63 (F := Ideal) (m (c.tc.loc Cert.DownIdeal.main_arg4)) (m (c.tc.loc Cert.DownIdeal.main_arg5)) (m (c.tc.loc Cert.DownIdeal.main_arg6)) (m (c.tc.loc Cert.DownIdeal.main_arg7)), fun c => Cert.DownRefIdeal.Read.val_main_v64 (F := Ideal) (m (c.tc.loc Cert.DownIdeal.main_arg1)) (m (c.tc.loc Cert.DownIdeal.main_arg2)) (m (c.tc.loc Cert.DownIdeal.main_arg3)) (m (c.tc.loc Cert.DownIdeal.main_arg4)) (m (c.tc.loc Cert.DownIdeal.main_arg5)) (m (c.tc.loc Cert.DownIdeal.main_arg6)) (m (c.tc.loc Cert.DownIdeal.main_arg7)), fun c => Cert.DownRefIdeal.Read.val_main_v58 (F := Ideal) (m (c.tc.loc Cert.DownIdeal.main_arg1)) (m (c.tc.loc Cert.DownIdeal.main_arg3)) (m (c.tc.loc Cert.DownIdeal.main_arg4)) (m (c.tc.loc Cert.DownIdeal.main_arg5)) (m (c.tc.loc Cert.DownIdeal.main_arg6)) (m (c.tc.loc Cert.DownIdeal.main_arg7)) (m (c.tc.loc Cert.DownIdeal.main_arg8)), fun c => Cert.DownRefIdeal.Read.val_main_v62 (F := Ideal) (m (c.tc.loc Cert.DownIdeal.main_arg1)) (m (c.tc.loc Cert.DownIdeal.main_arg4)) (m (c.tc.loc Cert.DownIdeal.main_arg5)) (m (c.tc.loc Cert.DownIdeal.main_arg6)) (m (c.tc.loc Cert.DownIdeal.main_arg7)) (m (c.tc.loc Cert.DownIdeal.main_arg8)), ?_, ?_⟩
  · refine (θ_run Cert.DownIdeal.defs _ _).mono (fun r h c => ?_) (Cert.DownIdeal.Value.run_blocks (F := Ideal) m g)
    obtain ⟨h9, h10, h11, h12, h13, h14, hargs⟩ := h c
    exact ⟨h9.trans (Cert.DownIdeal.Final.final_9 m c), h10.trans (Cert.DownIdeal.Final.final_10 m c), h11.trans (Cert.DownIdeal.Final.final_11 m c), h12.trans (Cert.DownIdeal.Final.final_12 m c), h13.trans (Cert.DownIdeal.Final.final_13 m c), h14.trans (Cert.DownIdeal.Final.final_14 m c), hargs⟩
  · refine (θ_run Cert.DownRefIdeal.defs _ _).mono (fun r h c => ?_) (Cert.DownRefIdeal.Value.run (F := Ideal) m' g')
    obtain ⟨h9, h10, h11, h12, h13, h14, hargs⟩ := h c
    obtain ⟨a0, a1, a2, a3, a4, a5, a6, a7, a8⟩ := hag c
    refine ⟨h9.trans ?_, h10.trans ?_, h11.trans ?_, h12.trans ?_, h13.trans ?_, h14.trans ?_, hargs⟩
    · exact (Cert.DownRefIdeal.Read.val_main_v44_eq _ _ _ _ _ _ _ _).trans (by rw [a0, a2, a3, a4, a5, a6, a7, a8])
    · exact (Cert.DownRefIdeal.Read.val_main_v55_eq _ _ _ _ _ _).trans (by rw [a1, a4, a5, a6, a7, a8])
    · exact (Cert.DownRefIdeal.Read.val_main_v63_eq _ _ _ _).trans (by rw [a4, a5, a6, a7])
    · exact (Cert.DownRefIdeal.Read.val_main_v64_eq _ _ _ _ _ _ _).trans (by rw [a1, a2, a3, a4, a5, a6, a7])
    · exact (Cert.DownRefIdeal.Read.val_main_v58_eq _ _ _ _ _ _ _).trans (by rw [a1, a3, a4, a5, a6, a7, a8])
    · exact (Cert.DownRefIdeal.Read.val_main_v62_eq _ _ _ _ _ _).trans (by rw [a1, a4, a5, a6, a7, a8])

/-- The reference of the backward pass of the gate, up and down projections runs, keeps its arguments, and leaves every counter at zero. -/
theorem frame_BwdRefIdeal : Cert.quiescent_BwdRefIdeal := fun m ρ _ =>
  (θ_run Cert.BwdRefIdeal.defs _ _).mono (fun r h => ⟨fun c => (h c).2.2.2.2.2.2.2.2, sem_eq_zero_of_no_sems (by decide) r.2⟩)
    (Cert.BwdRefIdeal.Value.run (F := Ideal) m ρ)

set_option maxHeartbeats 4000000 in
/-- At the ideal numbers, the backward pass of the gate, up and down projections and its reference return the same arrays. -/
theorem algebraic_Bwd : Cert.algebraic_BwdIdeal_BwdRefIdeal := by
  intro m g m' g' _ hag
  refine ⟨fun c => Cert.BwdRefIdeal.Read.val_main_v28 (F := Ideal) (m (c.tc.loc Cert.BwdIdeal.main_arg1)) (m (c.tc.loc Cert.BwdIdeal.main_arg6)) (m (c.tc.loc Cert.BwdIdeal.main_arg7)) (m (c.tc.loc Cert.BwdIdeal.main_arg11)) (m (c.tc.loc Cert.BwdIdeal.main_arg12)) (m (c.tc.loc Cert.BwdIdeal.main_arg16)) (m (c.tc.loc Cert.BwdIdeal.main_arg17)), fun c => Cert.BwdRefIdeal.Read.val_main_v82 (F := Ideal) (m (c.tc.loc Cert.BwdIdeal.main_arg0)) (m (c.tc.loc Cert.BwdIdeal.main_arg1)) (m (c.tc.loc Cert.BwdIdeal.main_arg4)) (m (c.tc.loc Cert.BwdIdeal.main_arg5)) (m (c.tc.loc Cert.BwdIdeal.main_arg6)) (m (c.tc.loc Cert.BwdIdeal.main_arg7)) (m (c.tc.loc Cert.BwdIdeal.main_arg11)) (m (c.tc.loc Cert.BwdIdeal.main_arg12)) (m (c.tc.loc Cert.BwdIdeal.main_arg16)) (m (c.tc.loc Cert.BwdIdeal.main_arg17)), fun c => Cert.BwdRefIdeal.Read.val_main_v83 (F := Ideal) (m (c.tc.loc Cert.BwdIdeal.main_arg0)) (m (c.tc.loc Cert.BwdIdeal.main_arg1)) (m (c.tc.loc Cert.BwdIdeal.main_arg4)) (m (c.tc.loc Cert.BwdIdeal.main_arg5)) (m (c.tc.loc Cert.BwdIdeal.main_arg6)) (m (c.tc.loc Cert.BwdIdeal.main_arg7)) (m (c.tc.loc Cert.BwdIdeal.main_arg11)) (m (c.tc.loc Cert.BwdIdeal.main_arg12)) (m (c.tc.loc Cert.BwdIdeal.main_arg17)), fun c => Cert.BwdRefIdeal.Read.val_main_v56 (F := Ideal) (m (c.tc.loc Cert.BwdIdeal.main_arg0)) (m (c.tc.loc Cert.BwdIdeal.main_arg1)) (m (c.tc.loc Cert.BwdIdeal.main_arg2)) (m (c.tc.loc Cert.BwdIdeal.main_arg4)) (m (c.tc.loc Cert.BwdIdeal.main_arg5)) (m (c.tc.loc Cert.BwdIdeal.main_arg6)) (m (c.tc.loc Cert.BwdIdeal.main_arg7)) (m (c.tc.loc Cert.BwdIdeal.main_arg11)) (m (c.tc.loc Cert.BwdIdeal.main_arg12)) (m (c.tc.loc Cert.BwdIdeal.main_arg16)) (m (c.tc.loc Cert.BwdIdeal.main_arg17)), fun c => Cert.BwdRefIdeal.Read.val_main_v76 (F := Ideal) (m (c.tc.loc Cert.BwdIdeal.main_arg0)) (m (c.tc.loc Cert.BwdIdeal.main_arg1)) (m (c.tc.loc Cert.BwdIdeal.main_arg3)) (m (c.tc.loc Cert.BwdIdeal.main_arg4)) (m (c.tc.loc Cert.BwdIdeal.main_arg5)) (m (c.tc.loc Cert.BwdIdeal.main_arg6)) (m (c.tc.loc Cert.BwdIdeal.main_arg11)) (m (c.tc.loc Cert.BwdIdeal.main_arg12)) (m (c.tc.loc Cert.BwdIdeal.main_arg16)) (m (c.tc.loc Cert.BwdIdeal.main_arg17)), fun c => Cert.BwdRefIdeal.Read.val_main_v84 (F := Ideal) (m (c.tc.loc Cert.BwdIdeal.main_arg0)) (m (c.tc.loc Cert.BwdIdeal.main_arg1)) (m (c.tc.loc Cert.BwdIdeal.main_arg4)) (m (c.tc.loc Cert.BwdIdeal.main_arg5)) (m (c.tc.loc Cert.BwdIdeal.main_arg6)) (m (c.tc.loc Cert.BwdIdeal.main_arg7)) (m (c.tc.loc Cert.BwdIdeal.main_arg8)) (m (c.tc.loc Cert.BwdIdeal.main_arg9)) (m (c.tc.loc Cert.BwdIdeal.main_arg11)) (m (c.tc.loc Cert.BwdIdeal.main_arg12)) (m (c.tc.loc Cert.BwdIdeal.main_arg13)) (m (c.tc.loc Cert.BwdIdeal.main_arg14)) (m (c.tc.loc Cert.BwdIdeal.main_arg16)) (m (c.tc.loc Cert.BwdIdeal.main_arg17)), fun c => Cert.BwdRefIdeal.Read.val_main_v60 (F := Ideal) (m (c.tc.loc Cert.BwdIdeal.main_arg0)) (m (c.tc.loc Cert.BwdIdeal.main_arg1)) (m (c.tc.loc Cert.BwdIdeal.main_arg4)) (m (c.tc.loc Cert.BwdIdeal.main_arg5)) (m (c.tc.loc Cert.BwdIdeal.main_arg6)) (m (c.tc.loc Cert.BwdIdeal.main_arg7)) (m (c.tc.loc Cert.BwdIdeal.main_arg10)) (m (c.tc.loc Cert.BwdIdeal.main_arg11)) (m (c.tc.loc Cert.BwdIdeal.main_arg12)) (m (c.tc.loc Cert.BwdIdeal.main_arg16)) (m (c.tc.loc Cert.BwdIdeal.main_arg17)), fun c => Cert.BwdRefIdeal.Read.val_main_v80 (F := Ideal) (m (c.tc.loc Cert.BwdIdeal.main_arg0)) (m (c.tc.loc Cert.BwdIdeal.main_arg1)) (m (c.tc.loc Cert.BwdIdeal.main_arg4)) (m (c.tc.loc Cert.BwdIdeal.main_arg5)) (m (c.tc.loc Cert.BwdIdeal.main_arg6)) (m (c.tc.loc Cert.BwdIdeal.main_arg11)) (m (c.tc.loc Cert.BwdIdeal.main_arg12)) (m (c.tc.loc Cert.BwdIdeal.main_arg15)) (m (c.tc.loc Cert.BwdIdeal.main_arg16)) (m (c.tc.loc Cert.BwdIdeal.main_arg17)), ?_, ?_⟩
  · refine (θ_run Cert.BwdIdeal.defs _ _).mono (fun r h c => ?_) (Cert.BwdIdeal.Value.run_blocks (F := Ideal) m g)
    obtain ⟨h18, h19, h20, h21, h22, h23, h24, h25, hargs⟩ := h c
    exact ⟨h18.trans (Cert.BwdIdeal.Final.final_18 m c), h19.trans (Cert.BwdIdeal.Final.final_19 m c), h20.trans (Cert.BwdIdeal.Final.final_20 m c), h21.trans (Cert.BwdIdeal.Final.final_21 m c), h22.trans (Cert.BwdIdeal.Final.final_22 m c), h23.trans (Cert.BwdIdeal.Final.final_23 m c), h24.trans (Cert.BwdIdeal.Final.final_24 m c), h25.trans (Cert.BwdIdeal.Final.final_25 m c), hargs⟩
  · refine (θ_run Cert.BwdRefIdeal.defs _ _).mono (fun r h c => ?_) (Cert.BwdRefIdeal.Value.run (F := Ideal) m' g')
    obtain ⟨h18, h19, h20, h21, h22, h23, h24, h25, hargs⟩ := h c
    obtain ⟨a0, a1, a2, a3, a4, a5, a6, a7, a8, a9, a10, a11, a12, a13, a14, a15, a16, a17⟩ := hag c
    refine ⟨h18.trans ?_, h19.trans ?_, h20.trans ?_, h21.trans ?_, h22.trans ?_, h23.trans ?_, h24.trans ?_, h25.trans ?_, hargs⟩
    · exact (Cert.BwdRefIdeal.Read.val_main_v28_eq _ _ _ _ _ _ _).trans (by rw [a1, a6, a7, a11, a12, a16, a17])
    · exact (Cert.BwdRefIdeal.Read.val_main_v82_eq _ _ _ _ _ _ _ _ _ _).trans (by rw [a0, a1, a4, a5, a6, a7, a11, a12, a16, a17])
    · exact (Cert.BwdRefIdeal.Read.val_main_v83_eq _ _ _ _ _ _ _ _ _).trans (by rw [a0, a1, a4, a5, a6, a7, a11, a12, a17])
    · exact (Cert.BwdRefIdeal.Read.val_main_v56_eq _ _ _ _ _ _ _ _ _ _ _).trans (by rw [a0, a1, a2, a4, a5, a6, a7, a11, a12, a16, a17])
    · exact (Cert.BwdRefIdeal.Read.val_main_v76_eq _ _ _ _ _ _ _ _ _ _).trans (by rw [a0, a1, a3, a4, a5, a6, a11, a12, a16, a17])
    · exact (Cert.BwdRefIdeal.Read.val_main_v84_eq _ _).trans (by rw [a0, a1, a4, a5, a6, a7, a8, a9, a11, a12, a13, a14, a16, a17])
    · exact (Cert.BwdRefIdeal.Read.val_main_v60_eq _ _ _ _ _ _ _ _ _ _ _).trans (by rw [a0, a1, a4, a5, a6, a7, a10, a11, a12, a16, a17])
    · exact (Cert.BwdRefIdeal.Read.val_main_v80_eq _ _ _ _ _ _ _ _ _ _).trans (by rw [a0, a1, a4, a5, a6, a11, a12, a15, a16, a17])

/-- The reference of the backward pass of the normalisation runs, keeps its arguments, and leaves every counter at zero. -/
theorem frame_NormBwdRefIdeal : Cert.quiescent_NormBwdRefIdeal := fun m ρ _ =>
  (θ_run Cert.NormBwdRefIdeal.defs _ _).mono (fun r h => ⟨fun c => (h c).2.2.2.2, sem_eq_zero_of_no_sems (by decide) r.2⟩)
    (Cert.NormBwdRefIdeal.Value.run (F := Ideal) m ρ)

set_option maxHeartbeats 4000000 in
/-- At the ideal numbers, the backward pass of the normalisation and its reference return the same arrays. -/
theorem algebraic_NormBwd : Cert.algebraic_NormBwdIdeal_NormBwdRefIdeal := by
  intro m g m' g' _ hag
  refine ⟨fun c => Cert.NormBwdRefIdeal.Read.val_main_v38 (F := Ideal) (m (c.tc.loc Cert.NormBwdIdeal.main_arg0)) (m (c.tc.loc Cert.NormBwdIdeal.main_arg1)) (m (c.tc.loc Cert.NormBwdIdeal.main_arg2)) (m (c.tc.loc Cert.NormBwdIdeal.main_arg3)) (m (c.tc.loc Cert.NormBwdIdeal.main_arg4)) (m (c.tc.loc Cert.NormBwdIdeal.main_arg5)) (m (c.tc.loc Cert.NormBwdIdeal.main_arg6)) (m (c.tc.loc Cert.NormBwdIdeal.main_arg7)), fun c => Cert.NormBwdRefIdeal.Read.val_main_v31 (F := Ideal) (m (c.tc.loc Cert.NormBwdIdeal.main_arg0)) (m (c.tc.loc Cert.NormBwdIdeal.main_arg2)) (m (c.tc.loc Cert.NormBwdIdeal.main_arg3)) (m (c.tc.loc Cert.NormBwdIdeal.main_arg4)) (m (c.tc.loc Cert.NormBwdIdeal.main_arg5)) (m (c.tc.loc Cert.NormBwdIdeal.main_arg6)) (m (c.tc.loc Cert.NormBwdIdeal.main_arg7)), fun c => Cert.NormBwdRefIdeal.Read.val_main_v39 (F := Ideal) (m (c.tc.loc Cert.NormBwdIdeal.main_arg0)) (m (c.tc.loc Cert.NormBwdIdeal.main_arg3)) (m (c.tc.loc Cert.NormBwdIdeal.main_arg4)), fun c => Cert.NormBwdRefIdeal.Read.val_main_v40 (F := Ideal) (m (c.tc.loc Cert.NormBwdIdeal.main_arg0)) (m (c.tc.loc Cert.NormBwdIdeal.main_arg3)) (m (c.tc.loc Cert.NormBwdIdeal.main_arg5)), ?_, ?_⟩
  · refine (θ_run Cert.NormBwdIdeal.defs _ _).mono (fun r h c => ?_) (Cert.NormBwdIdeal.Value.run_blocks (F := Ideal) m g)
    obtain ⟨h8, h9, h10, h11, hargs⟩ := h c
    exact ⟨h8.trans (Cert.NormBwdIdeal.Final.final_8 m c), h9.trans (Cert.NormBwdIdeal.Final.final_9 m c), h10.trans (Cert.NormBwdIdeal.Final.final_10 m c), h11.trans (Cert.NormBwdIdeal.Final.final_11 m c), hargs⟩
  · refine (θ_run Cert.NormBwdRefIdeal.defs _ _).mono (fun r h c => ?_) (Cert.NormBwdRefIdeal.Value.run (F := Ideal) m' g')
    obtain ⟨h8, h9, h10, h11, hargs⟩ := h c
    obtain ⟨a0, a1, a2, a3, a4, a5, a6, a7⟩ := hag c
    refine ⟨h8.trans ?_, h9.trans ?_, h10.trans ?_, h11.trans ?_, hargs⟩
    · exact (Cert.NormBwdRefIdeal.Read.val_main_v38_eq _ _ _ _ _ _ _ _).trans (by rw [a0, a1, a2, a3, a4, a5, a6, a7])
    · exact (Cert.NormBwdRefIdeal.Read.val_main_v31_eq _ _ _ _ _ _ _).trans (by rw [a0, a2, a3, a4, a5, a6, a7])
    · exact (Cert.NormBwdRefIdeal.Read.val_main_v39_eq _ _ _).trans (by rw [a0, a3, a4])
    · exact (Cert.NormBwdRefIdeal.Read.val_main_v40_eq _ _ _).trans (by rw [a0, a3, a5])

/-- The claims together. -/
theorem claim : Cert.Claim :=
  ⟨Cert.Down.Gen.facts, Cert.DownIdeal.Gen.facts, Cert.DownRefIdeal.Gen.facts, Cert.Bwd.Gen.facts, Cert.BwdIdeal.Gen.facts, Cert.BwdRefIdeal.Gen.facts, Cert.NormBwd.Gen.facts, Cert.NormBwdIdeal.Gen.facts, Cert.NormBwdRefIdeal.Gen.facts,
    fun m ρ _ => Cert.Down.Gen.frame m ρ, fun m ρ _ => Cert.DownIdeal.Gen.frame m ρ, frame_DownRefIdeal,
    fun m ρ _ => Cert.Bwd.Gen.frame m ρ, fun m ρ _ => Cert.BwdIdeal.Gen.frame m ρ, frame_BwdRefIdeal,
    fun m ρ _ => Cert.NormBwd.Gen.frame m ρ, fun m ρ _ => Cert.NormBwdIdeal.Gen.frame m ρ, frame_NormBwdRefIdeal,
    trivial, algebraic_Down,
    trivial, algebraic_Bwd,
    trivial, algebraic_NormBwd⟩

end Cert.Proof

end
